-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_on_kept [hKernelIdeal : Cert.KernelIdeal.Facts] [hReferenceIdeal : Cert.ReferenceIdeal.Facts] [hOn_kept : Cert.On_kept.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 4]⟩ ⟨2, ![1024, 16]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![4, 1024, 2048]⟩ ⟨3, ![16, 1024, 2048]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 2048, 1024]⟩ ⟨3, ![16, 2048, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 1024]⟩ : Shape).Idx, (Layout.block ⟨2, ![256, 1024]⟩ ⟨2, ![1024, 1024]⟩ 0 4 c ((Cert.On_kept.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![256, 1024]⟩ : Shape).Idx → _) i = 1#1 → r.2.mem ((c.tc : Thread Cert.KernelIdeal.nD Cert.KernelIdeal.τ).loc Cert.KernelIdeal.main_v1) i = (Layout.block ⟨2, ![256, 1024]⟩ ⟨2, ![1024, 1024]⟩ 0 4 c v0 : (⟨2, ![256, 1024]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![1024, 1024]⟩ : Shape).Idx, (Cert.On_kept.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v43) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hOn_kept : Cert.On_kept.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_kept (hKernelIdeal := hKernelIdeal) (hReferenceIdeal := hReferenceIdeal) (hOn_kept := hOn_kept)
-- ==== On_kept.lean ====
abbrev S1024x1024 : Shape := ⟨2, ![1024, 1024]⟩
abbrev S1024x16 : Shape := ⟨2, ![1024, 16]⟩
abbrev S16x1024x2048 : Shape := ⟨3, ![16, 1024, 2048]⟩
abbrev S16x2048x1024 : Shape := ⟨3, ![16, 2048, 1024]⟩
abbrev S1024x2 : Shape := ⟨2, ![1024, 2]⟩
abbrev S1024x2x1 : Shape := ⟨3, ![1024, 2, 1]⟩
abbrev S16 : Shape := ⟨1, ![16]⟩
abbrev S1x1x16 : Shape := ⟨3, ![1, 1, 16]⟩
abbrev S1024x2x16 : Shape := ⟨3, ![1024, 2, 16]⟩
abbrev S_ : Shape := ⟨0, ![]⟩
abbrev S1024 : Shape := ⟨1, ![1024]⟩
abbrev S1024x1 : Shape := ⟨2, ![1024, 1]⟩

class Facts : Prop where
  sliceFits_S1024x16_S1024x2 : S1024x16.Slices (fun _ => 0) S1024x2
  bcast_S1024x2_S1024x2x1_0_1 : S1024x2.BroadcastsInDim S1024x2x1 (![0, 1] : Fin 2 → Fin S1024x2x1.rank)
  bcast_S16_S1x1x16_2 : S16.BroadcastsInDim S1x1x16 (![2] : Fin 1 → Fin S1x1x16.rank)
  bcast_S1024x2x1_S1024x2x16_0_1_2 : S1024x2x1.BroadcastsInDim S1024x2x16 (![0, 1, 2] : Fin 3 → Fin S1024x2x16.rank)
  bcast_S1x1x16_S1024x2x16_0_1_2 : S1x1x16.BroadcastsInDim S1024x2x16 (![0, 1, 2] : Fin 3 → Fin S1024x2x16.rank)
  natLt_1_32 : 1 < 32
  reducesTo_S1024x2x16_S1024x16_d1 : S1024x2x16.ReducesTo [1] S1024x16
  h_S_ : 0 < S_.numel
  bcast_S_S_ : S_.BroadcastsInDim S_ (![] : Fin 0 → Fin S_.rank)
  reduceWindows_S1024x16_S1024x16_w1024s1p1023_0_w1s1p0_0 : S1024x16.ReduceWindows (![1024, 1] : Fin 2 → Nat) ![1, 1] ![1023, 0] ![0, 0] S1024x16
  bcast_S_S1024x16 : S_.BroadcastsInDim S1024x16 (![] : Fin 0 → Fin S1024x16.rank)
  reducesTo_S1024x16_S1024_d1 : S1024x16.ReducesTo [1] S1024
  reducesTo_S1024x16_S_d0_1 : S1024x16.ReducesTo [0, 1] S_
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  dot_S1024x1024_S1024x16_S1024x16_1_0_0_1_n_n_wf : DotDims.WF S1024x1024 S1024x16 S1024x16 [1] [0] [0] [1] [] []

variable [Facts]

def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf
def fn_cumsum_0 {F : FTy → Type} [FloatOps F] (arg0 : IVec S1024x16 32) : IVec S1024x16 32 :=
  let c : IVec S_ 32 := constantI S_ 32 0#32
  let v0 : IVec S_ 32 := broadcastInDim S_ ![] bcast_S_S_ c
  let v1 : IVec S1024x16 32 := (fun x v => Host.reduceWindow IntOp.addi ![1024, 1] ![1, 1] ![1023, 0] ![0, 0] x v reduceWindows_S1024x16_S1024x16_w1024s1p1023_0_w1s1p0_0 h_S_) arg0 v0
  v1

def fn_cumsum {F : FTy → Type} [FloatOps F] (arg0 : IVec S1024x16 32) : IVec S1024x16 32 :=
  let v0 : IVec S1024x16 32 := fn_cumsum_0 (F := F) arg0
  v0

def fn_part1 {F : FTy → Type} [FloatOps F] (main_v15 : IVec S1024 1) (main_v16 : FVec F S1024x16 .f32) (main_cst : FVec F S_ .f32) : IVec S1024x1024 1 :=
  let main_v17 : FVec F S1024x16 .f32 := broadcastInDim S1024x16 ![] bcast_S_S1024x16 main_cst
  let main_v18 : IVec S1024x16 1 := cmpf .olt main_v16 main_v17
  let main_c_3 : IVec S_ 1 := constantI S_ 1 1#1
  let main_v19 : IVec S_ 1 := (fun x v => Host.reduce IntOp.andi x v reducesTo_S1024x16_S_d0_1 h_S_) main_v18 main_c_3
  let main_v20 : IVec S1024 1 := broadcastInDim S1024 ![] bcast_S_S1024 main_v19
  let main_v21 : IVec S1024 1 := andi main_v15 main_v20
  let main_v22 : IVec S1024x1 1 := broadcastInDim S1024x1 ![0] bcast_S1024_S1024x1_0 main_v21
  let main_v23 : IVec S1024x1024 1 := broadcastInDim S1024x1024 ![0, 1] bcast_S1024x1_S1024x1024_0_1 main_v22
  main_v23

def fn {F : FTy → Type} [FloatOps F] (main_arg0 : FVec F S1024x1024 .f32) (main_arg1 : FVec F S1024x16 .f32) (main_arg2 : FVec F S16x1024x2048 .f32) (main_arg3 : FVec F S16x2048x1024 .f32) : IVec S1024x1024 1 :=
  let main_v0 : FVec F S1024x16 .f32 := (fun l r => Host.dotGeneral dot_S1024x1024_S1024x16_S1024x16_1_0_0_1_n_n none l r) main_arg0 main_arg1
  let main_values : FVec F S1024x2 .f32 := (fun x => (Host.topK S1024x2 1 (FloatOps.cmpfTotal .gt) x sliceFits_S1024x16_S1024x2).1) main_v0
  let main_indices : IVec S1024x2 32 := (fun x => (Host.topK S1024x2 1 (FloatOps.cmpfTotal .gt) x sliceFits_S1024x16_S1024x2).2) main_v0
  let main_v1 : IVec S1024x2x1 32 := broadcastInDim S1024x2x1 ![0, 1] bcast_S1024x2_S1024x2x1_0_1 main_indices
  let main_v2 : IVec S16 32 := iotaInDim S16 32 0
  let main_v3 : IVec S1x1x16 32 := broadcastInDim S1x1x16 ![2] bcast_S16_S1x1x16_2 main_v2
  let main_v4 : IVec S1024x2x16 32 := broadcastInDim S1024x2x16 ![0, 1, 2] bcast_S1024x2x1_S1024x2x16_0_1_2 main_v1
  let main_v5 : IVec S1024x2x16 32 := broadcastInDim S1024x2x16 ![0, 1, 2] bcast_S1x1x16_S1024x2x16_0_1_2 main_v3
  let main_v6 : IVec S1024x2x16 1 := cmpi .eq main_v4 main_v5
  let main_v7 : IVec S1024x2x16 32 := (extui 32 · natLt_1_32) main_v6
  let main_c : IVec S_ 32 := constantI S_ 32 0#32
  let main_v8 : IVec S1024x16 32 := (fun x v => Host.reduce IntOp.addi x v reducesTo_S1024x2x16_S1024x16_d1 h_S_) main_v7 main_c
  let main_v9 : IVec S1024x16 32 := fn_cumsum (F := F) main_v8
  let main_c_0 : IVec S_ 32 := constantI S_ 32 0#32
  let main_v10 : IVec S1024x16 32 := broadcastInDim S1024x16 ![] bcast_S_S1024x16 main_c_0
  let main_v11 : IVec S1024x16 1 := cmpi .eq main_v8 main_v10
  let main_c_1 : IVec S_ 32 := constantI S_ 32 256#32
  let main_v12 : IVec S1024x16 32 := broadcastInDim S1024x16 ![] bcast_S_S1024x16 main_c_1
  let main_v13 : IVec S1024x16 1 := cmpi .sle main_v9 main_v12
  let main_v14 : IVec S1024x16 1 := ori main_v11 main_v13
  let main_c_2 : IVec S_ 1 := constantI S_ 1 1#1
  let main_v15 : IVec S1024 1 := (fun x v => Host.reduce IntOp.andi x v reducesTo_S1024x16_S1024_d1 h_S_) main_v14 main_c_2
  let main_v16 : FVec F S1024x16 .f32 := Host.absf main_v0
  let main_cst : FVec F S_ .f32 := constant S_ .f32 0x7F7FFFFF#32
  fn_part1 (F := F) main_v15 main_v16 main_cst
-- ==== Kernel.lean ====
abbrev S256x1024 : Shape := ⟨2, ![256, 1024]⟩
abbrev S1024x4 : Shape := ⟨2, ![1024, 4]⟩
abbrev S4x1024x2048 : Shape := ⟨3, ![4, 1024, 2048]⟩
abbrev S4x2048x1024 : Shape := ⟨3, ![4, 2048, 1024]⟩
abbrev S1024x1024 : Shape := ⟨2, ![1024, 1024]⟩
abbrev S4x1024x4 : Shape := ⟨3, ![4, 1024, 4]⟩
abbrev S2x1024x2048 : Shape := ⟨3, ![2, 1024, 2048]⟩
abbrev S2x2048x1024 : Shape := ⟨3, ![2, 2048, 1024]⟩
abbrev S3x256x1024 : Shape := ⟨3, ![3, 256, 1024]⟩
abbrev S3 : Shape := ⟨1, ![3]⟩
abbrev S_ : Shape := ⟨0, ![]⟩
abbrev S2 : Shape := ⟨1, ![2]⟩
abbrev S1x1024x4 : Shape := ⟨3, ![1, 1024, 4]⟩
abbrev S1 : Shape := ⟨1, ![1]⟩
abbrev S1x1024x2048 : Shape := ⟨3, ![1, 1024, 2048]⟩
abbrev S1024x2048 : Shape := ⟨2, ![1024, 2048]⟩
abbrev S1x2048x1024 : Shape := ⟨3, ![1, 2048, 1024]⟩
abbrev S2048x1024 : Shape := ⟨2, ![2048, 1024]⟩
abbrev S1024x16 : Shape := ⟨2, ![1024, 16]⟩
abbrev S1024 : Shape := ⟨1, ![1024]⟩
abbrev S1024x1 : Shape := ⟨2, ![1024, 1]⟩
abbrev S1024x256 : Shape := ⟨2, ![1024, 256]⟩
abbrev S256x2048 : Shape := ⟨2, ![256, 2048]⟩
abbrev S1x256x1024 : Shape := ⟨3, ![1, 256, 1024]⟩

abbrev nBuf : Space → Nat
  | .hbm => 5
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S1024x4, .f32⟩
  | .hbm, ⟨2, _⟩ => ⟨S4x1024x2048, .f32⟩
  | .hbm, ⟨3, _⟩ => ⟨S4x2048x1024, .f32⟩
  | .hbm, ⟨4, _⟩ => ⟨S256x1024, .f32⟩
  | .local _ .vmem, ⟨0, _⟩ => ⟨S256x1024, .f32⟩
  | .local _ .vmem, ⟨1, _⟩ => ⟨S1024x1024, .f32⟩
  | .local _ .vmem, ⟨2, _⟩ => ⟨S4x1024x4, .f32⟩
  | .local _ .vmem, ⟨3, _⟩ => ⟨S2x1024x2048, .f32⟩
  | .local _ .vmem, ⟨4, _⟩ => ⟨S2x2048x1024, .f32⟩
  | .local _ .vmem, ⟨5, _⟩ => ⟨S1024x1024, .f32⟩
  | .local _ .vmem, ⟨6, _⟩ => ⟨S256x1024, .f32⟩
  | .local _ .vmem, ⟨7, _⟩ => ⟨S3x256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v25 : BitVec 32 := Scalar.muli v2 c256_i32
  let c0_i32_13 : BitVec 32 := 0#32
  ![v25.toNat, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_14 : BitVec 32 := 0#32
  let c0_i32_15 : BitVec 32 := 0#32
  ![v2.toNat, 0, 0]
def k0_dev1 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_31 : BitVec 32 := 1#32
  let v42 : BitVec 32 := Scalar.muli v13 c1_i32_31
  let v43 : BitVec 32 := Scalar.addi c0_i32_32 v42
  v43.toNat
def k0_dev2 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_34 : BitVec 32 := 1#32
  let v44 : BitVec 32 := Scalar.muli v24 c1_i32_34
  let v45 : BitVec 32 := Scalar.addi c0_i32_35 v44
  v45.toNat
def k0_off3 (d0 : Dev nD) (c0_i32_39 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v49 : BitVec 32 := Scalar.subi v2 c0_i32_39
  let c4_i32_40 : BitVec 32 := 4#32
  let c0_i32_41 : BitVec 32 := 0#32
  let v50 : BitVec 1 := Scalar.cmpi .eq c4_i32_40 c0_i32_41
  let c1_i32_42 : BitVec 32 := 1#32
  let v51 : BitVec 32 := Scalar.select v50 c1_i32_42 c4_i32_40
  let v52 : BitVec 32 := Scalar.remsi v49 v51
  let c0_i32_44 : BitVec 32 := 0#32
  let v54 : BitVec 1 := Scalar.cmpi .slt v52 c0_i32_44
  let c0_i32_45 : BitVec 32 := 0#32
  let v55 : BitVec 1 := Scalar.cmpi .slt v51 c0_i32_45
  let v56 : BitVec 1 := Scalar.xori v54 v55
  let c0_i32_43 : BitVec 32 := 0#32
  let v53 : BitVec 1 := Scalar.cmpi .ne v52 c0_i32_43
  let v57 : BitVec 1 := Scalar.andi v56 v53
  let v58 : BitVec 32 := Scalar.addi v52 v51
  let v59 : BitVec 32 := Scalar.select v57 v58 v52
  let c256_i32_47 : BitVec 32 := 256#32
  let v61 : BitVec 32 := Scalar.muli v59 c256_i32_47
  let c0_i32_52 : BitVec 32 := 0#32
  ![v61.toNat, 0]
def k0_dev3 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_50 : BitVec 32 := 1#32
  let v62 : BitVec 32 := Scalar.muli v24 c1_i32_50
  let v63 : BitVec 32 := Scalar.addi c0_i32_51 v62
  v63.toNat
def k0_off4 (d0 : Dev nD) (c0_i32_39 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v49 : BitVec 32 := Scalar.subi v2 c0_i32_39
  let c4_i32_40 : BitVec 32 := 4#32
  let c0_i32_41 : BitVec 32 := 0#32
  let v50 : BitVec 1 := Scalar.cmpi .eq c4_i32_40 c0_i32_41
  let c1_i32_42 : BitVec 32 := 1#32
  let v51 : BitVec 32 := Scalar.select v50 c1_i32_42 c4_i32_40
  let v52 : BitVec 32 := Scalar.remsi v49 v51
  let c0_i32_44 : BitVec 32 := 0#32
  let v54 : BitVec 1 := Scalar.cmpi .slt v52 c0_i32_44
  let c0_i32_45 : BitVec 32 := 0#32
  let v55 : BitVec 1 := Scalar.cmpi .slt v51 c0_i32_45
  let v56 : BitVec 1 := Scalar.xori v54 v55
  let c0_i32_43 : BitVec 32 := 0#32
  let v53 : BitVec 1 := Scalar.cmpi .ne v52 c0_i32_43
  let v57 : BitVec 1 := Scalar.andi v56 v53
  let v58 : BitVec 32 := Scalar.addi v52 v51
  let v59 : BitVec 32 := Scalar.select v57 v58 v52
  let c0_i32_58 : BitVec 32 := 0#32
  let c0_i32_59 : BitVec 32 := 0#32
  ![v59.toNat, 0, 0]
def k0_dev4 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_56 : BitVec 32 := 1#32
  let v70 : BitVec 32 := Scalar.muli v24 c1_i32_56
  let v71 : BitVec 32 := Scalar.addi c0_i32_57 v70
  v71.toNat
def k0_dev5 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_99 : BitVec 32 := 1#32
  let v117 : BitVec 32 := Scalar.muli v24 c1_i32_99
  let v118 : BitVec 32 := Scalar.addi c0_i32_100 v117
  v118.toNat
def k0_dev6 (d0 : Dev nD) : Nat :=
  let c0_i32_106 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_105 : BitVec 32 := 1#32
  let v125 : BitVec 32 := Scalar.muli v24 c1_i32_105
  let v126 : BitVec 32 := Scalar.addi c0_i32_106 v125
  v126.toNat
def k0_dev7 (d0 : Dev nD) : Nat :=
  let c0_i32_149 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_148 : BitVec 32 := 1#32
  let v172 : BitVec 32 := Scalar.muli v24 c1_i32_148
  let v173 : BitVec 32 := Scalar.addi c0_i32_149 v172
  v173.toNat
def k0_dev8 (d0 : Dev nD) : Nat :=
  let c0_i32_155 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_154 : BitVec 32 := 1#32
  let v180 : BitVec 32 := Scalar.muli v24 c1_i32_154
  let v181 : BitVec 32 := Scalar.addi c0_i32_155 v180
  v181.toNat
def k0_off5 (d0 : Dev nD) (c0_i32_416 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_415 : BitVec 32 := 1#32
  let v535 : BitVec 32 := Scalar.subi v2 c1_i32_415
  let v536 : BitVec 32 := Scalar.subi v535 c0_i32_416
  let c4_i32_417 : BitVec 32 := 4#32
  let c0_i32_418 : BitVec 32 := 0#32
  let v537 : BitVec 1 := Scalar.cmpi .eq c4_i32_417 c0_i32_418
  let c1_i32_419 : BitVec 32 := 1#32
  let v538 : BitVec 32 := Scalar.select v537 c1_i32_419 c4_i32_417
  let v539 : BitVec 32 := Scalar.remsi v536 v538
  let c0_i32_421 : BitVec 32 := 0#32
  let v541 : BitVec 1 := Scalar.cmpi .slt v539 c0_i32_421
  let c0_i32_422 : BitVec 32 := 0#32
  let v542 : BitVec 1 := Scalar.cmpi .slt v538 c0_i32_422
  let v543 : BitVec 1 := Scalar.xori v541 v542
  let c0_i32_420 : BitVec 32 := 0#32
  let v540 : BitVec 1 := Scalar.cmpi .ne v539 c0_i32_420
  let v544 : BitVec 1 := Scalar.andi v543 v540
  let v545 : BitVec 32 := Scalar.addi v539 v538
  let v546 : BitVec 32 := Scalar.select v544 v545 v539
  let c256_i32_423 : BitVec 32 := 256#32
  let v547 : BitVec 32 := Scalar.muli v546 c256_i32_423
  let v548 : Index := Scalar.indexCast v547
  let c0_424 : Index := 0#32
  ![v548.toNat, 0]
def k0_dev9 (d0 : Dev nD) : Nat :=
  let c0_i32_431 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_430 : BitVec 32 := 1#32
  let v553 : BitVec 32 := Scalar.muli v24 c1_i32_430
  let v554 : BitVec 32 := Scalar.addi c0_i32_431 v553
  v554.toNat
def k0_dev10 (d0 : Dev nD) : Nat :=
  let c0_i32_466 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_465 : BitVec 32 := 1#32
  let v592 : BitVec 32 := Scalar.muli v24 c1_i32_465
  let v593 : BitVec 32 := Scalar.addi c0_i32_466 v592
  v593.toNat
def k0_dev11 (d0 : Dev nD) : Nat :=
  let c0_i32_501 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_500 : BitVec 32 := 1#32
  let v631 : BitVec 32 := Scalar.muli v24 c1_i32_500
  let v632 : BitVec 32 := Scalar.addi c0_i32_501 v631
  v632.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_517 : BitVec 32 := 256#32
  let v649 : BitVec 32 := Scalar.muli v2 c256_i32_517
  let v650 : Index := Scalar.indexCast v649
  let c0_518 : Index := 0#32
  ![v650.toNat, 0]
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x1024 : Shape := ⟨2, ![1024, 1024]⟩
abbrev S1024x16 : Shape := ⟨2, ![1024, 16]⟩
abbrev S16x1024x2048 : Shape := ⟨3, ![16, 1024, 2048]⟩
abbrev S16x2048x1024 : Shape := ⟨3, ![16, 2048, 1024]⟩
abbrev S1024x2 : Shape := ⟨2, ![1024, 2]⟩
abbrev S_ : Shape := ⟨0, ![]⟩
abbrev S1024 : Shape := ⟨1, ![1024]⟩
abbrev S1024x1 : Shape := ⟨2, ![1024, 1]⟩
abbrev S16x1024x1024 : Shape := ⟨3, ![16, 1024, 1024]⟩
abbrev S1x1024x1 : Shape := ⟨3, ![1, 1024, 1]⟩
abbrev S16 : Shape := ⟨1, ![16]⟩
abbrev S16x1x1 : Shape := ⟨3, ![16, 1, 1]⟩
abbrev S16x1024x1 : Shape := ⟨3, ![16, 1024, 1]⟩

abbrev nBuf : Space → Nat
  | .hbm => 64
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x16, .f32⟩
  | .hbm, ⟨2, _⟩ => ⟨S16x1024x2048, .f32⟩
  | .hbm, ⟨3, _⟩ => ⟨S16x2048x1024, .f32⟩
  | .hbm, ⟨4, _⟩ => ⟨S1024x16, .f32⟩
  | .hbm, ⟨5, _⟩ => ⟨S1024x2, .f32⟩
  | .hbm, ⟨6, _⟩ => ⟨S1024x2, .i32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x2, .f32⟩
  | .hbm, ⟨11, _⟩ => ⟨S1024x2, .f32⟩
  | .hbm, ⟨12, _⟩ => ⟨S1024x2, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x2, .f32⟩
  | .hbm, ⟨17, _⟩ => ⟨S1024x2, .f32⟩
  | .hbm, ⟨18, _⟩ => ⟨S16x2048x1024, .f32⟩
  | .hbm, ⟨19, _⟩ => ⟨S16x1024x2048, .f32⟩
  | .hbm, ⟨20, _⟩ => ⟨S_, .f32⟩
  | .hbm, ⟨21, _⟩ => ⟨S16x1024x2048, .f32⟩
  | .hbm, ⟨22, _⟩ => ⟨S16x1024x2048, .f32⟩
  | .hbm, ⟨23, _⟩ => ⟨S16x1024x1024, .f32⟩
  | .hbm, ⟨24, _⟩ => ⟨S_, .f32⟩
  | .hbm, ⟨25, _⟩ => ⟨S1024x1024, .f32⟩
  | .hbm, ⟨26, _⟩ => ⟨S1024x1, .i32⟩
  | .hbm, ⟨27, _⟩ => ⟨S1x1024x1, .i32⟩
  | .hbm, ⟨28, _⟩ => ⟨S16, .i32⟩
  | .hbm, ⟨29, _⟩ => ⟨S16x1x1, .i32⟩
  | .hbm, ⟨30, _⟩ => ⟨S16x1024x1, .i32⟩
  | .hbm, ⟨31, _⟩ => ⟨S16x1024x1, .i32⟩
  | .hbm, ⟨32, _⟩ => ⟨S16x1024x1, .i1⟩
  | .hbm, ⟨33, _⟩ => ⟨S1024x1, .f32⟩
  | .hbm, ⟨34, _⟩ => ⟨S1x1024x1, .f32⟩
  | .hbm, ⟨35, _⟩ => ⟨S16x1024x1024, .f32⟩
  | .hbm, ⟨36, _⟩ => ⟨S16x1024x1024, .f32⟩
  | .hbm, ⟨37, _⟩ => ⟨S_, .f32⟩
  | .hbm, ⟨38, _⟩ => ⟨S_, .f32⟩
  | .hbm, ⟨39, _⟩ => ⟨S16x1024x1024, .i1⟩
  | .hbm, ⟨40, _⟩ => ⟨S16x1024x1024, .f32⟩
  | .hbm, ⟨41, _⟩ => ⟨S16x1024x1024, .f32⟩
  | .hbm, ⟨42, _⟩ => ⟨S_, .f32⟩
  | .hbm, ⟨43, _⟩ => ⟨S1024x1024, .f32⟩
  | .hbm, ⟨44, _⟩ => ⟨S1024x1024, .f32⟩
  | .hbm, ⟨45, _⟩ => ⟨S1024x1, .i32⟩
  | .hbm, ⟨46, _⟩ => ⟨S1x1024x1, .i32⟩
  | .hbm, ⟨47, _⟩ => ⟨S16, .i32⟩
  | .hbm, ⟨48, _⟩ => ⟨S16x1x1, .i32⟩
  | .hbm, ⟨49, _⟩ => ⟨S16x1024x1, .i32⟩
  | .hbm, ⟨50, _⟩ => ⟨S16x1024x1, .i32⟩
  | .hbm, ⟨51, _⟩ => ⟨S16x1024x1, .i1⟩
  | .hbm, ⟨52, _⟩ => ⟨S1024x1, .f32⟩
  | .hbm, ⟨53, _⟩ => ⟨S1x1024x1, .f32⟩
  | .hbm, ⟨54, _⟩ => ⟨S16x1024x1024, .f32⟩
  | .hbm, ⟨55, _⟩ => ⟨S16x1024x1024, .f32⟩
  | .hbm, ⟨56, _⟩ => ⟨S_, .f32⟩
  | .hbm, ⟨57, _⟩ => ⟨S_, .f32⟩
  | .hbm, ⟨58, _⟩ => ⟨S16x1024x1024, .i1⟩
  | .hbm, ⟨59, _⟩ => ⟨S16x1024x1024, .f32⟩
  | .hbm, ⟨60, _⟩ => ⟨S16x1024x1024, .f32⟩
  | .hbm, ⟨61, _⟩ => ⟨S_, .f32⟩
  | .hbm, ⟨62, _⟩ => ⟨S1024x1024, .f32⟩
  | .hbm, ⟨63, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_values : Ref sig .tc := ⟨.hbm, 5, rfl⟩
abbrev main_indices : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== Proof.Mem.lean ====
/-
# The buffers of the kernel, and what each holds

The launch's buffers as memrefs, their blocks, and — as pure functions of the launch memory — the contents every buffer
has once the transfer that fills it has landed. Everything here is over any float values `F`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic
public import Idealize.ShloMosaic.Lib.ValueLayout
public import Idealize.ShloMosaic.Lib.ValueIdxCore

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The ring of four devices -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
def ring : Dev nD ≃ Dev nD := ⟨nxt, prv, prv_nxt, nxt_prv⟩

theorem dev1_eq : ∀ c : Dev nD, (⟨k0_dev1 c, k0_dev1_lt c⟩ : Dev nD) = prv c := by decide +kernel
theorem dev2_eq : ∀ c : Dev nD, (⟨k0_dev2 c, k0_dev2_lt c⟩ : Dev nD) = nxt c := by decide +kernel
theorem dev3_eq : ∀ c : Dev nD, (⟨k0_dev3 c, k0_dev3_lt c⟩ : Dev nD) = nxt c := by decide +kernel
theorem dev4_eq : ∀ c : Dev nD, (⟨k0_dev4 c, k0_dev4_lt c⟩ : Dev nD) = nxt c := by decide +kernel
theorem dev5_eq : ∀ c : Dev nD, (⟨k0_dev5 c, k0_dev5_lt c⟩ : Dev nD) = nxt c := by decide +kernel
theorem dev6_eq : ∀ c : Dev nD, (⟨k0_dev6 c, k0_dev6_lt c⟩ : Dev nD) = nxt c := by decide +kernel
theorem dev7_eq : ∀ c : Dev nD, (⟨k0_dev7 c, k0_dev7_lt c⟩ : Dev nD) = nxt c := by decide +kernel
theorem dev8_eq : ∀ c : Dev nD, (⟨k0_dev8 c, k0_dev8_lt c⟩ : Dev nD) = nxt c := by decide +kernel
theorem dev9_eq : ∀ c : Dev nD, (⟨k0_dev9 c, k0_dev9_lt c⟩ : Dev nD) = nxt c := by decide +kernel
theorem dev10_eq : ∀ c : Dev nD, (⟨k0_dev10 c, k0_dev10_lt c⟩ : Dev nD) = nxt c := by decide +kernel
theorem dev11_eq : ∀ c : Dev nD, (⟨k0_dev11 c, k0_dev11_lt c⟩ : Dev nD) = nxt c := by decide +kernel

set_option backward.proofsInPublic true in
/-- The block `k` places before device `c`'s own on the ring. -/
def bk (c : Dev nD) (k : ℕ) : Fin 4 := ⟨(c.val + 4 * k - k) % 4, Nat.mod_lt _ (by decide)⟩

theorem off1_eq (c : Dev nD) : k0_off1 c = ![256 * (bk c 0).val, 0] := (by decide +kernel : ∀ c : Dev nD, k0_off1 c = ![256 * (bk c 0).val, 0]) c
theorem off2_eq (c : Dev nD) : k0_off2 c = ![(bk c 0).val, 0, 0] := (by decide +kernel : ∀ c : Dev nD, k0_off2 c = ![(bk c 0).val, 0, 0]) c
theorem off3_eq (c : Dev nD) (h : Fin 3) : k0_off3 c (BitVec.ofNat 32 h.val) = ![256 * (bk c h.val).val, 0] :=
  (by decide +kernel : ∀ (c : Dev nD) (h : Fin 3), k0_off3 c (BitVec.ofNat 32 h.val) = ![256 * (bk c h.val).val, 0]) c h
theorem off4_eq (c : Dev nD) (h : Fin 3) : k0_off4 c (BitVec.ofNat 32 h.val) = ![(bk c h.val).val, 0, 0] :=
  (by decide +kernel : ∀ (c : Dev nD) (h : Fin 3), k0_off4 c (BitVec.ofNat 32 h.val) = ![(bk c h.val).val, 0, 0]) c h
theorem off5_eq (c : Dev nD) (h : Fin 3) : k0_off5 c (BitVec.ofNat 32 h.val) = ![256 * (bk c (h.val + 1)).val, 0] :=
  (by decide +kernel : ∀ (c : Dev nD) (h : Fin 3), k0_off5 c (BitVec.ofNat 32 h.val) = ![256 * (bk c (h.val + 1)).val, 0]) c h
theorem off6_eq (c : Dev nD) : k0_off6 c = ![256 * (bk c 0).val, 0] := (by decide +kernel : ∀ c : Dev nD, k0_off6 c = ![256 * (bk c 0).val, 0]) c
theorem bk_nxt (c : Dev nD) (k : ℕ) : bk (nxt c) (k + 1) = bk c k := by
  apply Fin.ext; simp only [bk, nxt]; omega
theorem bk_zero (c : Dev nD) : (bk c 0).val = c.val := by have := c.isLt; simp only [bk]; simp only [nD] at this; omega

/-! ## The memrefs -/

abbrev a0M : Memref sig .tc .hbm S256x1024 .f32 := Memref.whole main_arg0
abbrev a1M : Memref sig .tc .hbm S1024x4 .f32 := Memref.whole main_arg1
abbrev a2M : Memref sig .tc .hbm S4x1024x2048 .f32 := Memref.whole main_arg2
abbrev a3M : Memref sig .tc .hbm S4x2048x1024 .f32 := Memref.whole main_arg3
abbrev oM : Memref sig .tc .vmem S256x1024 .f32 := Memref.whole cc0_stg0_0
abbrev xM : Memref sig .tc .vmem S1024x1024 .f32 := Memref.whole cc0_scratch0
abbrev gM : Memref sig .tc .vmem S4x1024x4 .f32 := Memref.whole cc0_scratch1
abbrev w1M : Memref sig .tc .vmem S2x1024x2048 .f32 := Memref.whole cc0_scratch2
abbrev w2M : Memref sig .tc .vmem S2x2048x1024 .f32 := Memref.whole cc0_scratch3
abbrev accM : Memref sig .tc .vmem S1024x1024 .f32 := Memref.whole cc0_scratch4
abbrev sM : Memref sig .tc .vmem S256x1024 .f32 := Memref.whole cc0_scratch5
abbrev rM : Memref sig .tc .vmem S3x256x1024 .f32 := Memref.whole cc0_scratch6

theorem inbX (b : Fin 4) : ∀ a, (![256 * b.val, 0] : Fin 2 → ℕ) a + S256x1024.size a ≤ S1024x1024.size a := by revert b; decide
theorem inbG (b : Fin 4) : ∀ a, (![b.val, 0, 0] : Fin 3 → ℕ) a + S1x1024x4.size a ≤ S4x1024x4.size a := by revert b; decide
theorem inbR (b : Fin 3) : ∀ a, (![b.val, 0, 0] : Fin 3 → ℕ) a + S1x256x1024.size a ≤ S3x256x1024.size a := by revert b; decide
theorem inbW1 (b : Fin 2) : ∀ a, (![b.val, 0, 0] : Fin 3 → ℕ) a + S1x1024x2048.size a ≤ S2x1024x2048.size a := by revert b; decide
theorem inbW2 (b : Fin 2) : ∀ a, (![b.val, 0, 0] : Fin 3 → ℕ) a + S1x2048x1024.size a ≤ S2x2048x1024.size a := by revert b; decide
theorem inbA2 (b : Fin 4) : ∀ a, (![b.val, 0, 0] : Fin 3 → ℕ) a + S1x1024x2048.size a ≤ S4x1024x2048.size a := by revert b; decide
theorem inbA3 (b : Fin 4) : ∀ a, (![b.val, 0, 0] : Fin 3 → ℕ) a + S1x2048x1024.size a ≤ S4x2048x1024.size a := by revert b; decide

/-- Block `b` of the gathered tokens; -/
abbrev xB (b : Fin 4) : Memref sig .tc .vmem S256x1024 .f32 :=
  xM.slice (Rect.unit (s := S1024x1024) ![256 * b.val, 0] S256x1024.size (inbX b)) (fun _ => rfl)
/-- slice `b` of the gathered router; -/
abbrev gB (b : Fin 4) : Memref sig .tc .vmem S1024x4 .f32 :=
  (gM.slice (Rect.unit (s := S4x1024x4) ![b.val, 0, 0] S1x1024x4.size (inbG b)) (fun _ => rfl)).squeeze S1024x4 squeezes_S1x1024x4_S1024x4
/-- landing slot `s` of the partial sums; -/
abbrev rB (s : Fin 3) : Memref sig .tc .vmem S256x1024 .f32 :=
  (rM.slice (Rect.unit (s := S3x256x1024) ![s.val, 0, 0] S1x256x1024.size (inbR s)) (fun _ => rfl)).squeeze S256x1024 squeezes_S1x256x1024_S256x1024
/-- a slot of each weight buffer and an expert of each weight array. -/
abbrev w1B (s : Fin 2) : Memref sig .tc .vmem S1024x2048 .f32 :=
  (w1M.slice (Rect.unit (s := S2x1024x2048) ![s.val, 0, 0] S1x1024x2048.size (inbW1 s)) (fun _ => rfl)).squeeze S1024x2048 squeezes_S1x1024x2048_S1024x2048
abbrev w2B (s : Fin 2) : Memref sig .tc .vmem S2048x1024 .f32 :=
  (w2M.slice (Rect.unit (s := S2x2048x1024) ![s.val, 0, 0] S1x2048x1024.size (inbW2 s)) (fun _ => rfl)).squeeze S2048x1024 squeezes_S1x2048x1024_S2048x1024
abbrev a2B (e : Fin 4) : Memref sig .tc .hbm S1024x2048 .f32 :=
  (a2M.slice (Rect.unit (s := S4x1024x2048) ![e.val, 0, 0] S1x1024x2048.size (inbA2 e)) (fun _ => rfl)).squeeze S1024x2048 squeezes_S1x1024x2048_S1024x2048
abbrev a3B (e : Fin 4) : Memref sig .tc .hbm S2048x1024 .f32 :=
  (a3M.slice (Rect.unit (s := S4x2048x1024) ![e.val, 0, 0] S1x2048x1024.size (inbA3 e)) (fun _ => rfl)).squeeze S2048x1024 squeezes_S1x2048x1024_S2048x1024

/-! ## Contents -/

variable (m : (ℓ : Loc nD τ sig) → Buf (Elt F) ℓ)

/-- The kernel's four operands on device `c`. -/
def arg0 (c : Dev nD) : FVec F S256x1024 .f32 := m ((c : Thread nD τ).loc main_arg0)
def arg1 (c : Dev nD) : FVec F S1024x4 .f32 := m ((c : Thread nD τ).loc main_arg1)
def arg2 (c : Dev nD) : FVec F S4x1024x2048 .f32 := m ((c : Thread nD τ).loc main_arg2)
def arg3 (c : Dev nD) : FVec F S4x2048x1024 .f32 := m ((c : Thread nD τ).loc main_arg3)

/-- All the tokens, gathered: row `i` is row `i % 256` of device `i / 256`'s block — the same on every device. -/
def XF : FVec F S1024x1024 .f32 := fun i =>
  arg0 m ⟨(i 0).val / 256, by have h : (i 0).val < 1024 := (i 0).isLt; show _ < 4; omega⟩ (ix2 ⟨(i 0).val % 256, Nat.mod_lt _ (by decide)⟩ (i 1))
/-- The router, gathered: slice `b` is device `b`'s. -/
def GF : FVec F S4x1024x4 .f32 := fun i => arg1 m (i 0) (ix2 (i 1) (i 2))
/-- Expert `e`'s weights on device `c`, as either slot of the weight buffers holds them. -/
def W1F (c : Dev nD) (e : Fin 4) : FVec F S2x1024x2048 .f32 := fun i => arg2 m c (ix3 e (i 1) (i 2))
def W2F (c : Dev nD) (e : Fin 4) : FVec F S2x2048x1024 .f32 := fun i => arg3 m c (ix3 e (i 1) (i 2))

/-- What the loads of one router slice and of one expert's weights read. -/
def gRow (b : Fin 4) : Vec F S1x1024x4 .f32 := fun i => arg1 m b (ix2 (i 1) (i 2))
def w1Row (c : Dev nD) (e : Fin 4) : Vec F S1x1024x2048 .f32 := fun i => arg2 m c (ix3 e (i 1) (i 2))
def w2Row (c : Dev nD) (e : Fin 4) : Vec F S1x2048x1024 .f32 := fun i => arg3 m c (ix3 e (i 1) (i 2))

/-! ### The routing and the experts, value by value as the body computes them -/

def v2w (c : Dev nD) : BitVec 32 := Scalar.remsi (Scalar.divsi (Dev.word c) 1#32) 4#32

def q225 : IVec S1024x16 32 := iota .tc S1024x16 32 [1] iota_S1024x16_d1_w32
def q227 : FVec F S1024x1 .f32 := k0_pay3 (gRow m 0) (gRow m 1) (gRow m 2) (gRow m 3) (XF m)
def q233 : IVec S1024x1 32 := k0_pay4 (gRow m 0) (gRow m 1) (gRow m 2) (gRow m 3) (XF m)
def q237 : FVec F S1024x16 .f32 := k0_pay5 (gRow m 0) (gRow m 1) (gRow m 2) (gRow m 3) (XF m)
def q239 : FVec F S1024x1 .f32 := k0_pay6 (gRow m 0) (gRow m 1) (gRow m 2) (gRow m 3) (XF m)
def q245 : IVec S1024x1 32 := k0_pay7 q225 (q237 m) (q239 m)
def q251 : FVec F S1024x1 .f32 := k0_pay9 (q227 m) (q239 m)
def q254 : FVec F S1024x1 .f32 := k0_pay10 (q227 m) (q239 m)
def q264 (c : Dev nD) : FVec F S1024x1 .f32 := k0_pay13 (v2w c) q225 (q233 m) (q237 m) (q239 m)
def q269 (c : Dev nD) : FVec F S1024x1 .f32 := k0_pay14 (v2w c) q225 (q227 m) (q233 m) (q237 m) (q239 m)
def q275 (c : Dev nD) : IVec S1024x1 1 := k0_pay16 (v2w c) q225 (q237 m) (q239 m)
def q279 (c : Dev nD) : FVec F S1024x1 .f32 := k0_pay17 (v2w c) q225 (q233 m) (q237 m) (q239 m)
def q281 (c : Dev nD) : FVec F S1024x1 .f32 := k0_pay18 (v2w c) (q227 m) (q233 m) (q239 m)
def q282 : FVec F S1024x1 .f32 := k0_pay19 (F := F)
def q284 (c : Dev nD) : FVec F S1024x1 .f32 := k0_pay20 (q254 m) (q275 m c) (q281 m c) q282
def q294 (c : Dev nD) : FVec F S1024x1 .f32 := k0_pay23 (F := F) (v2w c) (q233 m) (q245 m)
def q299 (c : Dev nD) : FVec F S1024x1 .f32 := k0_pay24 (v2w c) (q233 m) (q245 m) (q251 m) (q254 m)
def q309 (c : Dev nD) : FVec F S1024x1 .f32 := k0_pay27 (F := F) (v2w c) (q233 m) (q245 m)
def q314 (c : Dev nD) : FVec F S1024x1 .f32 := k0_pay28 (v2w c) (q233 m) (q245 m) (q251 m) (q254 m)
def q322 (c : Dev nD) : FVec F S1024x4 .f32 := k0_pay29 (v2w c) (q233 m) (q245 m) (q264 m c) (q279 m c)
def q324 : FVec F S1024x256 .f32 := k0_pay30 (F := F)
def q353 (c : Dev nD) : IVec S1024x256 1 := k0_pay31 (q322 m c) q324
def qz : F .f32 := Scalar.ofBits .f32 0x00000000#32
/-- The accumulator after the first, second, third and last of the device's experts. -/
def acc1 (c : Dev nD) : FVec F S1024x1024 .f32 := k0_pay32 (q264 m c) (q269 m c) (q353 m c) qz (XF m) (w1Row m c 0) (w2Row m c 0)
def q411 (c : Dev nD) : IVec S1024x256 1 := k0_pay33 (q279 m c) (q322 m c) q324
def q414 (c : Dev nD) : FVec F S1024x256 .f32 := k0_pay34 (q279 m c) (q322 m c) q324
def q416 (c : Dev nD) : FVec F S1024x256 .f32 := k0_pay35 (q284 m c)
def q417 : FVec F S1024x256 .f32 := k0_pay36 (F := F)
def acc2 (c : Dev nD) : FVec F S1024x1024 .f32 := k0_pay37 (q411 m c) (q414 m c) (q416 m c) q417 (XF m) (w1Row m c 1) (w2Row m c 1) (acc1 m c)
def q474 (c : Dev nD) : FVec F S1024x256 .f32 := k0_pay39 (q294 m c) (q299 m c) (q322 m c) q324
def q476 (c : Dev nD) : FVec F S256x1024 .f32 := k0_pay40 (q294 m c) (q322 m c) q324 (XF m)
def acc3 (c : Dev nD) : FVec F S1024x1024 .f32 := k0_pay41 (q474 m c) (q476 m c) (w1Row m c 2) (w2Row m c 2) (acc2 m c)
def q507 (c : Dev nD) : IVec S1024x256 1 := k0_pay42 (q322 m c) q324
def acc4 (c : Dev nD) : FVec F S1024x1024 .f32 := k0_pay43 (q309 m c) (q314 m c) (q507 m c) (XF m) (w1Row m c 3) (w2Row m c 3) (acc3 m c)

/-! ### The ring of partial sums -/

/-- Block `b` of device `c`'s accumulator, as a load reads it. -/
def accB (c : Dev nD) (b : Fin 4) : Vec F S256x1024 .f32 := fun i =>
  acc4 m c (ix2 ⟨256 * b.val + (i 0).val, by have h : (i 0).val < 256 := (i 0).isLt; have := b.isLt; show _ < 1024; omega⟩ (i 1))
/-- A received partial sum with the unit axis its load gives it. -/
def up3 (d : FVec F S256x1024 .f32) : Vec F S1x256x1024 .f32 := fun i => d (ix2 (i 1) (i 2))
/-- What device `c` sends at step 0, 1 and 2 of the reduce-scatter. -/
def D0 (c : Dev nD) : FVec F S256x1024 .f32 := k0_pay44 (accB m c (bk c 1))
def D1 (c : Dev nD) : FVec F S256x1024 .f32 := k0_pay45 (accB m c (bk c 2)) (up3 (D0 m (prv c)))
def D2 (c : Dev nD) : FVec F S256x1024 .f32 := k0_pay46 (accB m c (bk c 3)) (up3 (D1 m (prv c)))
def DS (s : Fin 3) (c : Dev nD) : FVec F S256x1024 .f32 := match s with | 0 => D0 m c | 1 => D1 m c | 2 => D2 m c
/-- The landing buffer of device `c`: slot `s` holds what the device before it sent at step `s`. -/
def RF (c : Dev nD) : FVec F S3x256x1024 .f32 := fun i => DS m (i 0) (prv c) (ix2 (i 1) (i 2))
/-- The kernel's result on device `c`. -/
def outF (c : Dev nD) : FVec F S256x1024 .f32 := k0_pay1 (accB m c (bk c 0)) (up3 (D2 m (prv c)))

/-! ### Reads of these contents -/

/-- A view written with what another reads agrees, on its own elements, with any contents that read the same. -/
theorem write_agrees {sp sp' : Space} {s : Shape} {e : EltTy} (v : View sig .tc sp s e) (v' : View sig .tc sp' s e)
    (fd g : v.ty.Contents (Elt F)) (fs : v'.ty.Contents (Elt F)) (h : v.read (Elt F) g = v'.read (Elt F) fs) :
    ∀ i ∈ v.set, v.write (Elt F) fd (v'.read (Elt F) fs) Finset.univ i = g i := by
  intro i hi
  obtain ⟨x, -, rfl⟩ := Finset.mem_map.mp hi
  rw [View.write_emb_of_mem (h := Finset.mem_univ x), ← h, View.read_apply]
  simp

omit [FloatOps F] in
theorem emb_xB (b : Fin 4) (i : Fin 256) (j : Fin 1024) :
    (xB b).view.emb (ix2 i j) = (ix2 ⟨256 * b.val + i.val, by have := b.isLt; have := i.isLt; omega⟩ j : S1024x1024.Idx) := by
  funext a; apply Fin.ext
  fin_cases a
  · show 256 * b.val + 1 * i.val = 256 * b.val + i.val; omega
  · show 0 + 1 * j.val = j.val; omega
omit [FloatOps F] in
theorem emb_gB (b : Fin 4) (i : Fin 1024) (j : Fin 4) : (gB b).view.emb (ix2 i j) = (ix3 b i j : S4x1024x4.Idx) := by
  show (Rect.unit (s := S4x1024x4) ![b.val, 0, 0] S1x1024x4.size (inbG b)).emb (Shape.reshapeEquiv _ (ix2 i j)) = _
  rw [reshapeEquiv_ix2_1ab]
  funext a; apply Fin.ext
  fin_cases a
  · show b.val + 1 * 0 = b.val; omega
  · show 0 + 1 * i.val = i.val; omega
  · show 0 + 1 * j.val = j.val; omega
omit [FloatOps F] in
theorem emb_rB (b : Fin 3) (i : Fin 256) (j : Fin 1024) : (rB b).view.emb (ix2 i j) = (ix3 b i j : S3x256x1024.Idx) := by
  show (Rect.unit (s := S3x256x1024) ![b.val, 0, 0] S1x256x1024.size (inbR b)).emb (Shape.reshapeEquiv _ (ix2 i j)) = _
  rw [reshapeEquiv_ix2_1ab]
  funext a; apply Fin.ext
  fin_cases a
  · show b.val + 1 * 0 = b.val; omega
  · show 0 + 1 * i.val = i.val; omega
  · show 0 + 1 * j.val = j.val; omega
omit [FloatOps F] in
theorem emb_w1B (b : Fin 2) (i : Fin 1024) (j : Fin 2048) : (w1B b).view.emb (ix2 i j) = (ix3 b i j : S2x1024x2048.Idx) := by
  show (Rect.unit (s := S2x1024x2048) ![b.val, 0, 0] S1x1024x2048.size (inbW1 b)).emb (Shape.reshapeEquiv _ (ix2 i j)) = _
  rw [reshapeEquiv_ix2_1ab]
  funext a; apply Fin.ext
  fin_cases a
  · show b.val + 1 * 0 = b.val; omega
  · show 0 + 1 * i.val = i.val; omega
  · show 0 + 1 * j.val = j.val; omega
omit [FloatOps F] in
theorem emb_w2B (b : Fin 2) (i : Fin 2048) (j : Fin 1024) : (w2B b).view.emb (ix2 i j) = (ix3 b i j : S2x2048x1024.Idx) := by
  show (Rect.unit (s := S2x2048x1024) ![b.val, 0, 0] S1x2048x1024.size (inbW2 b)).emb (Shape.reshapeEquiv _ (ix2 i j)) = _
  rw [reshapeEquiv_ix2_1ab]
  funext a; apply Fin.ext
  fin_cases a
  · show b.val + 1 * 0 = b.val; omega
  · show 0 + 1 * i.val = i.val; omega
  · show 0 + 1 * j.val = j.val; omega
omit [FloatOps F] in
theorem emb_a2B (b : Fin 4) (i : Fin 1024) (j : Fin 2048) : (a2B b).view.emb (ix2 i j) = (ix3 b i j : S4x1024x2048.Idx) := by
  show (Rect.unit (s := S4x1024x2048) ![b.val, 0, 0] S1x1024x2048.size (inbA2 b)).emb (Shape.reshapeEquiv _ (ix2 i j)) = _
  rw [reshapeEquiv_ix2_1ab]
  funext a; apply Fin.ext
  fin_cases a
  · show b.val + 1 * 0 = b.val; omega
  · show 0 + 1 * i.val = i.val; omega
  · show 0 + 1 * j.val = j.val; omega
omit [FloatOps F] in
theorem emb_a3B (b : Fin 4) (i : Fin 2048) (j : Fin 1024) : (a3B b).view.emb (ix2 i j) = (ix3 b i j : S4x2048x1024.Idx) := by
  show (Rect.unit (s := S4x2048x1024) ![b.val, 0, 0] S1x2048x1024.size (inbA3 b)).emb (Shape.reshapeEquiv _ (ix2 i j)) = _
  rw [reshapeEquiv_ix2_1ab]
  funext a; apply Fin.ext
  fin_cases a
  · show b.val + 1 * 0 = b.val; omega
  · show 0 + 1 * i.val = i.val; omega
  · show 0 + 1 * j.val = j.val; omega

/-- Two functions of a pair of coordinates agreeing at every pair are one. -/
theorem funext_ix2 {n0 n1 : ℕ} {α : Type} {f g : (⟨2, ![n0, n1]⟩ : Shape).Idx → α} (h : ∀ i j, f (ix2 i j) = g (ix2 i j)) : f = g :=
  funext fun i => by rw [eq_ix2 i]; exact h _ _

omit [FloatOps F] in
theorem read_xB_own (c : Dev nD) : (xB (bk c 0)).view.read (Elt F) (XF m) = a0M.view.read (Elt F) (arg0 m c) := by
  refine funext_ix2 fun i j => ?_
  rw [View.read_apply, View.read_apply, emb_xB]
  show arg0 m _ (ix2 _ _) = arg0 m c (ix2 i j)
  have hi := i.isLt
  have hc := bk_zero c
  congr 1
  · apply Fin.ext; show (256 * (bk c 0).val + i.val) / 256 = c.val; omega
  · congr 1; apply Fin.ext; show (256 * (bk c 0).val + i.val) % 256 = i.val; omega
omit [FloatOps F] in
theorem read_gB_own (c : Dev nD) : (gB (bk c 0)).view.read (Elt F) (GF m) = a1M.view.read (Elt F) (arg1 m c) := by
  refine funext_ix2 fun i j => ?_
  rw [View.read_apply, View.read_apply, emb_gB]
  show arg1 m (bk c 0) (ix2 i j) = arg1 m c (ix2 i j)
  congr 1; exact Fin.ext (bk_zero c)
theorem read_rB (c : Dev nD) (s : Fin 3) : (rB s).view.read (Elt F) (RF m (nxt c)) = sM.view.read (Elt F) (DS m s c) := by
  refine funext_ix2 fun i j => ?_
  rw [View.read_apply, View.read_apply, emb_rB]
  show DS m s (prv (nxt c)) (ix2 i j) = DS m s c (ix2 i j)
  rw [prv_nxt]
omit [FloatOps F] in
theorem read_w1B (c : Dev nD) (s : Fin 2) (e : Fin 4) : (w1B s).view.read (Elt F) (W1F m c e) = (a2B e).view.read (Elt F) (arg2 m c) := by
  refine funext_ix2 fun i j => ?_
  rw [View.read_apply, View.read_apply, emb_w1B, emb_a2B]
  rfl
omit [FloatOps F] in
theorem read_w2B (c : Dev nD) (s : Fin 2) (e : Fin 4) : (w2B s).view.read (Elt F) (W2F m c e) = (a3B e).view.read (Elt F) (arg3 m c) := by
  refine funext_ix2 fun i j => ?_
  rw [View.read_apply, View.read_apply, emb_w2B, emb_a3B]
  rfl

end Cert.Moe

end
-- ==== Proof.Proto.lean ====
/-
# The ring protocol

The semaphores the devices share — the entry barrier, and one send and one receive cell for every hop of the two
all-gathers and every step of the reduce-scatter — as a schedule of one round per cell, what each device owes its
neighbours, in the order it pays it, and the levels that order every wait below what is still owed.
-/
module

public import proofs.«01_k».proof.Proof.Mem

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

/-! ## The resource algebra: the pipeline's rounds, the ring's rounds, the local transfers' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells -/

/-- The runtime's barrier semaphore, and the ring's eighteen transfer semaphores: numbers 1–3 and 4–6 the token
    gather's send and receive cells by hop, 7–9 and 10–12 the router gather's, 13–15 and 16–18 the reduce-scatter's. -/
abbrev barS : Sem sig := (SemArray.scalar (sig.barrier 0 rfl) : Sems sig S_).sem
abbrev dS (k : Fin 18) : DmaSem sig := ⟨k.val + 1, Nat.lt_of_lt_of_le (Nat.succ_lt_succ k.isLt) (by decide)⟩
/-- The semaphores of the local copies: 19 and 20 the operands', 21–24 the weights'. -/
abbrev lS (k : Fin 6) : DmaSem sig := ⟨k.val + 19, Nat.lt_of_lt_of_le (Nat.add_lt_add_right k.isLt 19) (by decide)⟩

abbrev csem : Option (Fin 18) → SemLoc sig := fun | none => .reg barS | some k => .dma (dS k)
abbrev kcell (p : Dev nD × Option (Fin 18)) : GSem nD τ sig := ((p.1 : Thread nD τ), csem p.2)
abbrev barCell (c : Dev nD) : GSem nD τ sig := kcell (c, none)
abbrev dcell (c : Dev nD) (k : Fin 18) : GSem nD τ sig := kcell (c, some k)

abbrev NX : ℕ := (xB 0).view.dmaCredit
abbrev NG : ℕ := (gB 0).view.dmaCredit
theorem NX_pos : 0 < NX := View.dmaCredit_pos _ (by decide)
theorem NG_pos : 0 < NG := View.dmaCredit_pos _ (by decide)

/-- The credit a cell's one round expects from one duty. -/
def amtN (k : ℕ) : ℕ := if 7 ≤ k ∧ k ≤ 12 then NG else NX
theorem amtN_pos (k : ℕ) : 0 < amtN k := by unfold amtN; split; exacts [NG_pos, NX_pos]

/-! ## What the cells hand over -/

def pX (c : Dev nD) (b : Fin 4) : sProp 𝕄 := (xB b).view.loc (c : Thread nD τ) ↦[(xB b).view.set]{fullShare} XF m
def pG (c : Dev nD) (b : Fin 4) : sProp 𝕄 := (gB b).view.loc (c : Thread nD τ) ↦[(gB b).view.set]{fullShare} GF m
def pR (c : Dev nD) (s : Fin 3) : sProp 𝕄 := (rB s).view.loc (c : Thread nD τ) ↦[(rB s).view.set]{fullShare} RF m c
def pS (c : Dev nD) (d : FVec F S256x1024 .f32) : sProp 𝕄 := sM.view.loc (c : Thread nD τ) ↦[sM.view.set]{fullShare} d
/-- The same elements at contents not yet known. -/
def uX (c : Dev nD) (b : Fin 4) : sProp 𝕄 :=
  iprop(∃ f : Buf (Elt F) ((xB b).view.loc (c : Thread nD τ)), (xB b).view.loc (c : Thread nD τ) ↦[(xB b).view.set]{fullShare} f)
def uG (c : Dev nD) (b : Fin 4) : sProp 𝕄 :=
  iprop(∃ f : Buf (Elt F) ((gB b).view.loc (c : Thread nD τ)), (gB b).view.loc (c : Thread nD τ) ↦[(gB b).view.set]{fullShare} f)
def uR (c : Dev nD) (s : Fin 3) : sProp 𝕄 :=
  iprop(∃ f : Buf (Elt F) ((rB s).view.loc (c : Thread nD τ)), (rB s).view.loc (c : Thread nD τ) ↦[(rB s).view.set]{fullShare} f)

/-- Where the transfers into device `n` land: every block and router slice but its own, and the three slots. -/
def landing (n : Dev nD) : sProp 𝕄 :=
  iprop((uX n (bk n 1) ∗ uX n (bk n 2) ∗ uX n (bk n 3)) ∗ (uG n (bk n 1) ∗ uG n (bk n 2) ∗ uG n (bk n 3)) ∗ (uR n 0 ∗ uR n 1 ∗ uR n 2))

instance pX_storable (c : Dev nD) (b) : BI.Storable (upEmb : UEmb _ 𝕄) (pX (F := F) m c b) := by unfold pX; infer_instance
instance pG_storable (c : Dev nD) (b) : BI.Storable (upEmb : UEmb _ 𝕄) (pG (F := F) m c b) := by unfold pG; infer_instance
instance pR_storable (c : Dev nD) (b) : BI.Storable (upEmb : UEmb _ 𝕄) (pR (F := F) m c b) := by unfold pR; infer_instance
instance pS_storable (c : Dev nD) (b) : BI.Storable (upEmb : UEmb _ 𝕄) (pS (F := F) c b) := by unfold pS; infer_instance
instance uX_storable (c : Dev nD) (b) : BI.Storable (upEmb : UEmb _ 𝕄) (uX (F := F) c b) := by unfold uX; infer_instance
instance uG_storable (c : Dev nD) (b) : BI.Storable (upEmb : UEmb _ 𝕄) (uG (F := F) c b) := by unfold uG; infer_instance
instance uR_storable (c : Dev nD) (b) : BI.Storable (upEmb : UEmb _ 𝕄) (uR (F := F) c b) := by unfold uR; infer_instance
instance landing_storable (c : Dev nD) : BI.Storable (upEmb : UEmb _ 𝕄) (landing (F := F) c) := by unfold landing; infer_instance

/-- What the round of transfer cell `k` of device `c` hands over: a send cell its source back, a receive cell what landed. -/
def payN (c : Dev nD) : ℕ → sProp 𝕄
  | 0 => pX m c (bk c 0) | 1 => pX m c (bk c 1) | 2 => pX m c (bk c 2)
  | 3 => pX m c (bk c 1) | 4 => pX m c (bk c 2) | 5 => pX m c (bk c 3)
  | 6 => pG m c (bk c 0) | 7 => pG m c (bk c 1) | 8 => pG m c (bk c 2)
  | 9 => pG m c (bk c 1) | 10 => pG m c (bk c 2) | 11 => pG m c (bk c 3)
  | 12 => pS c (D0 m c) | 13 => pS c (D1 m c) | 14 => pS c (D2 m c)
  | 15 => pR m c 0 | 16 => pR m c 1 | 17 => pR m c 2
  | _ => iprop(emp)
abbrev payK (c : Dev nD) (k : Fin 18) : sProp 𝕄 := payN m c k.val

instance payN_storable (c : Dev nD) (k : ℕ) : BI.Storable (upEmb : UEmb _ 𝕄) (payN (F := F) m c k) := by
  unfold payN; split <;> infer_instance

/-- What a semaphore's round hands over, by the semaphore: the barrier duty `true` (the next device's signal) its
    landing places, the duty `false` nothing. -/
def payS (c : Dev nD) (d : Bool) : SemLoc sig → sProp 𝕄
  | .reg _ => if d then landing (nxt c) else iprop(emp)
  | .dma q => payN m c (q.val - 1)

/-- One round, round 0: a barrier cell has the two duties `false` (from the device before) and `true` (from the device
    after) of one unit each; a transfer cell the duty `false` of its transfer's credit. -/
def ringRd : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma q => amtN q.val
  payload g _ d := payS m g.1.1 d g.2
  amount_pos g _ _ _ := by
    rcases g with ⟨t, sm | q⟩
    · exact Nat.one_pos
    · exact amtN_pos _

instance ringRd_payload_storable (g : GSem nD τ sig) (r : ℕ) (d : Bool) :
    BI.Storable (upEmb : UEmb _ 𝕄) ((ringRd (F := F) m).payload g r d) := by
  show BI.Storable upEmb (payS m g.1.1 d g.2)
  rcases g with ⟨t, sm | q⟩
  · dsimp only [payS]; split <;> infer_instance
  · dsimp only [payS]; infer_instance

section Sched
variable (c : Dev nD) (k : Fin 18)

theorem duties_bar : (ringRd (F := F) m).duties (barCell c) 0 = Finset.univ := by dsimp only [ringRd]; exact if_pos ⟨rfl, rfl⟩
theorem duties_d : (ringRd (F := F) m).duties (dcell c k) 0 = {false} := by dsimp only [ringRd]; exact if_pos ⟨rfl, rfl⟩
theorem duties_later (g : GSem nD τ sig) : ∀ r, 1 ≤ r → (ringRd (F := F) m).duties g r = ∅ :=
  fun r hr => by dsimp only [ringRd]; rw [if_neg fun h => by omega]
theorem amount_bar (d : Bool) : (ringRd (F := F) m).amount (barCell c) 0 d = 1 := rfl
theorem amount_d (d : Bool) : (ringRd (F := F) m).amount (dcell c k) 0 d = amtN (k.val + 1) := rfl
theorem expect_bar : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_d : (ringRd (F := F) m).expect (dcell c k) 0 = amtN (k.val + 1) := by
  unfold Schedule.expect Schedule.amountOf; rw [duties_d, Finset.sum_singleton, amount_d]
theorem payload_bar_true : (ringRd (F := F) m).payload (barCell c) 0 true = landing (nxt c) := rfl
theorem payload_bar_false : (ringRd (F := F) m).payload (barCell c) 0 false = iprop(emp) := rfl
theorem payload_d (d : Bool) : (ringRd (F := F) m).payload (dcell c k) 0 d = payK m c k := by
  rfl
theorem rest_bar : bigSep ((ringRd (F := F) m).duties (barCell c) 0 \ ∅) (fun d => (ringRd (F := F) m).payload (barCell c) 0 d) = iprop(emp ∗ landing (nxt c)) := by
  rw [Finset.sdiff_empty, duties_bar, bigSep_univ_eq_bigSepL [false, true] (by decide) (by decide), bigSepL_cons_cons, bigSepL_singleton,
    payload_bar_false, payload_bar_true]
  rfl
theorem rest_d : bigSep ((ringRd (F := F) m).duties (dcell c k) 0 \ ∅) (fun d => (ringRd (F := F) m).payload (dcell c k) 0 d) = payK m c k := by
  rw [Finset.sdiff_empty, duties_d, bigSep_singleton, payload_d]

end Sched

/-! ## What a device owes, in the order it pays -/

/-- Units owed on cells, the first listed paid first. -/
def ofL : List (GSem nD τ sig × ℕ) → CellTallies nD τ sig Unit
  | [] => 0
  | p :: l => ofL l + tallyAt p.1 () p.2

theorem ofL_pos {l : List (GSem nD τ sig × ℕ)} {g : GSem nD τ sig} {u : Unit} (h : 0 < ofL l g u) : ∃ p ∈ l, p.1 = g := by
  induction l with
  | nil => exact absurd h (Nat.lt_irrefl 0)
  | cons p l ih =>
    unfold ofL at h
    rw [Pi.add_apply, Finsupp.add_apply, tallyAt_apply] at h
    by_cases hp : g = p.1 ∧ u = ()
    · exact ⟨p, List.mem_cons_self, hp.1.symm⟩
    · rw [if_neg hp, Nat.add_zero] at h
      obtain ⟨q, hq, e⟩ := ih h
      exact ⟨q, List.mem_cons_of_mem _ hq, e⟩

/-- The transfers' part: the receive cells of the next device, hop by hop and step by step. -/
def owR (c : Dev nD) (k : Fin 18) : GSem nD τ sig × ℕ := (dcell (nxt c) k, amtN (k.val + 1))
def oRS (c : Dev nD) : List (GSem nD τ sig × ℕ) := [owR c 15, owR c 16, owR c 17]
def oH2 (c : Dev nD) : List (GSem nD τ sig × ℕ) := owR c 5 :: owR c 11 :: oRS c
def oH1 (c : Dev nD) : List (GSem nD τ sig × ℕ) := owR c 4 :: owR c 10 :: oH2 c
def oH0 (c : Dev nD) : List (GSem nD τ sig × ℕ) := owR c 3 :: owR c 9 :: oH1 c
/-- All of it: the two signals of the entry barrier first. -/
def oAll (c : Dev nD) : List (GSem nD τ sig × ℕ) := (barCell (prv c), 1) :: (barCell (nxt c), 1) :: oH0 c

def L (g : GSem nD τ sig) : Finset Unit := if g.1.2 = .tc then {()} else ∅
/-- The order of the waits: the barrier, then the hops' receive cells, then the reduce-scatter's; a send cell and a local
    copy's below everything owed. -/
def lvN (q : ℕ) : ℕ :=
  if q = 4 ∨ q = 10 then 2 else if q = 5 ∨ q = 11 then 3 else if q = 6 ∨ q = 12 then 4
  else if q = 16 then 5 else if q = 17 then 6 else if q = 18 then 7 else 0
def lv (g : GSem nD τ sig) (_ : Unit) : ℕ := match g.2 with | .reg _ => 1 | .dma q => lvN q.val

theorem L_of_ne (g : GSem nD τ sig) (h : g.1.2 ≠ .tc) : L g = ∅ := if_neg h
theorem L_tc (c : Dev nD) (sm : SemLoc sig) : L ((c : Thread nD τ), sm) = {()} := if_pos rfl

/-- A wait below everything still owed is admissible. -/
theorem mayWait_of (c : Dev nD) (sm : SemLoc sig) (l : List (GSem nD τ sig × ℕ)) (b : ℕ) (hb : lv ((c : Thread nD τ), sm) () ≤ b)
    (hl : ∀ p ∈ l, p.1.1.2 = .tc ∧ b < lv p.1 ()) : (levAts L lv : sProp 𝕄) ⊢ MayWait (c : Thread nD τ) sm () (ofL l) :=
  MayOwe.of_cut (L := L) (lev := lv) b (fun p hp => by rw [Finset.mem_singleton.mp hp, L_tc]; exact Finset.mem_singleton_self _)
    (fun g u hg => by
      obtain ⟨p, hp, rfl⟩ := ofL_pos hg
      unfold L; rw [if_pos (hl p hp).1]; exact Finset.mem_singleton_self _)
    (fun p hp => by rw [Finset.mem_singleton.mp hp]; exact hb)
    (fun g u hg => by obtain ⟨p, hp, rfl⟩ := ofL_pos hg; exact (hl p hp).2)

/-! The levels of what is left to pay, at each stage. -/
theorem lvl_nil (b : ℕ) : ∀ p ∈ ([] : List (GSem nD τ sig × ℕ)), p.1.1.2 = .tc ∧ b < lv p.1 () := fun _ h => by cases h
theorem lvl_cons (b : ℕ) {p : GSem nD τ sig × ℕ} {l : List (GSem nD τ sig × ℕ)} (h : p.1.1.2 = .tc ∧ b < lv p.1 ())
    (hl : ∀ p ∈ l, p.1.1.2 = .tc ∧ b < lv p.1 ()) : ∀ q ∈ p :: l, q.1.1.2 = .tc ∧ b < lv q.1 () :=
  fun q hq => by rcases List.mem_cons.mp hq with rfl | hq; exacts [h, hl q hq]
theorem lvl_owR (c : Dev nD) (k : Fin 18) (b : ℕ) (h : b < lvN (k.val + 1)) : (owR c k).1.1.2 = .tc ∧ b < lv (owR c k).1 () := ⟨rfl, h⟩

theorem lvl_RS (c : Dev nD) : ∀ p ∈ oRS c, p.1.1.2 = .tc ∧ 4 < lv p.1 () :=
  lvl_cons 4 (lvl_owR c 15 4 (by decide)) (lvl_cons 4 (lvl_owR c 16 4 (by decide)) (lvl_cons 4 (lvl_owR c 17 4 (by decide)) (lvl_nil 4)))
theorem lvl_mono {b b' : ℕ} (h : b ≤ b') {l : List (GSem nD τ sig × ℕ)} (hl : ∀ p ∈ l, p.1.1.2 = .tc ∧ b' < lv p.1 ()) :
    ∀ p ∈ l, p.1.1.2 = .tc ∧ b < lv p.1 () := fun p hp => ⟨(hl p hp).1, lt_of_le_of_lt h (hl p hp).2⟩
theorem lvl_H2 (c : Dev nD) : ∀ p ∈ oH2 c, p.1.1.2 = .tc ∧ 3 < lv p.1 () :=
  lvl_cons 3 (lvl_owR c 5 3 (by decide)) (lvl_cons 3 (lvl_owR c 11 3 (by decide)) (lvl_mono (by decide) (lvl_RS c)))
theorem lvl_H1 (c : Dev nD) : ∀ p ∈ oH1 c, p.1.1.2 = .tc ∧ 2 < lv p.1 () :=
  lvl_cons 2 (lvl_owR c 4 2 (by decide)) (lvl_cons 2 (lvl_owR c 10 2 (by decide)) (lvl_mono (by decide) (lvl_H2 c)))
theorem lvl_H0 (c : Dev nD) : ∀ p ∈ oH0 c, p.1.1.2 = .tc ∧ 1 < lv p.1 () :=
  lvl_cons 1 (lvl_owR c 3 1 (by decide)) (lvl_cons 1 (lvl_owR c 9 1 (by decide)) (lvl_mono (by decide) (lvl_H1 c)))
theorem lvl_All (c : Dev nD) : ∀ p ∈ oAll c, p.1.1.2 = .tc ∧ 0 < lv p.1 () :=
  lvl_cons 0 ⟨rfl, Nat.one_pos⟩ (lvl_cons 0 ⟨rfl, Nat.one_pos⟩ (lvl_mono (by decide) (lvl_H0 c)))

/-! ## The records every device keeps: every cell's invariant, and that its round is open -/

def recs (K : Dev nD × Option (Fin 18) → ℕ) : sProp 𝕄 :=
  iprop((bigSep Finset.univ fun p => cellInv ER (ringRd m) (K p) (kcell p)) ∗ (bigSep Finset.univ fun p => reached ER (kcell p) 0))

instance recs_persistent (K : Dev nD × Option (Fin 18) → ℕ) : BI.Persistent (recs (F := F) m K) := by unfold recs; infer_instance

theorem recs_inv (K : Dev nD × Option (Fin 18) → ℕ) (p : Dev nD × Option (Fin 18)) : recs m K ⊢ cellInv ER (ringRd m) (K p) (kcell p) :=
  (BI.Entails.trans BI.sep_and and_elimL).trans (bigSep_elim (Finset.mem_univ p))
theorem recs_reached (K : Dev nD × Option (Fin 18) → ℕ) (p : Dev nD × Option (Fin 18)) : recs m K ⊢ reached ER (kcell p) 0 :=
  (BI.Entails.trans BI.sep_and and_elimR).trans (bigSep_elim (Finset.mem_univ p))

/-! ## The steps of the protocol -/

abbrev 𝒱₀ : Variants := Variants.none

/-- A device owing the listed units, having waited somewhere. -/
def ow (c : Dev nD) (l : List (GSem nD τ sig × ℕ)) : sProp 𝕄 := iprop(∃ W : Waits sig Unit, owes (c : Thread nD τ) (ofL l) W)

section Steps

variable (K : Dev nD × Option (Fin 18) → ℕ)

/-- A signal to a neighbour's barrier cell. -/
theorem step_signal (c n n' : Dev nD) (hn : n = n') (d : Bool) (l : List (GSem nD τ sig × ℕ)) (j : ℤ) (hj : j = 1)
    {α : Type} {Q : α → sProp 𝕄} {k : PUnit → Prog (TpuEff nD τ sig (Elt F) Λ₀ .tc) α} :
    iprop(recs m K ∗ ow c ((barCell n', 1) :: l) ∗ dutyTok ER (barCell n') 0 d ∗ (ringRd m).payload (barCell n') 0 d)
      ⊢ iprop((ow c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS j) k) Q) := by
  subst hn hj
  unfold ow
  iintro ⟨#Hrec, ⟨%W, HO⟩, Ht, Hp⟩ Hk
  iapply (Rounds.wp_signal 𝒱₀ ER (ringRd m) (c : Thread nD τ) none (dst := (n : Thread nD τ)) (κ := K (n, none))
      (d := d) (by rw [duties_bar]; exact Finset.mem_univ _) (amount_bar m n d) () (ofL l) rfl)
    $$ [HO Ht Hp]
  · isplitr; · iapply (recs_inv m K (n, none)); iexact Hrec
    isplitl [HO]; · iexact HO
    isplitl [Ht]; · iexact Ht
    isplitl [Hp]; · iexact Hp
    iapply (recs_reached m K (n, none)); iexact Hrec
  iintro HO
  iapply Hk
  iexists W; iexact HO

/-- The wait on the device's own barrier cell: the next device's landing places come with it, and the cell is closed. -/
theorem step_barrier (c : Dev nD) (l : List (GSem nD τ sig × ℕ)) (j : ℕ) (hj : j = 2) (hl : ∀ p ∈ l, p.1.1.2 = .tc ∧ 1 < lv p.1 ())
    {α : Type} {Q : α → sProp 𝕄} {k : PUnit → Prog (TpuEff nD τ sig (Elt F) Λ₀ .tc) α} :
    iprop(recs m K ∗ levAts L lv ∗ ow c l ∗ cred (tallyAt (barCell c) () 2) ∗ atPos ER (barCell c) 0 ∅ 0)
      ⊢ iprop((iprop(ow c l ∗ landing (nxt c) ∗ semVal (barCell c) 0) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS j) k) Q) := by
  subst hj
  unfold ow
  iintro ⟨#Hrec, #Hlev, ⟨%W, HO⟩, Hc, Ha⟩ Hk
  iapply (Rounds.wp_wait_rest_token 𝒱₀ ER (ringRd m) (c : Thread nD τ) none (κ := K (c, none))
      (wpE_semWait_eq 𝒱₀ (c : Thread nD τ) none Set.univ) (Set.mem_univ _) () (O := ofL l) (W := W) (R := 0) (m := 0) (T := ∅)
      (by rw [expect_bar])) $$ [Hc HO Ha]
  · isplitr; · iapply (recs_inv m K (c, none)); iexact Hrec
    isplitl [Hc]; · iexact Hc
    isplitl [HO]; · iexact HO
    isplitr; · iapply (mayWait_of c (.reg barS) l 1 (le_refl _) hl); iexact Hlev
    iexact Ha
  iintro ⟨HO, Ha, -, Hp⟩
  ihave Hp := (Entails.of_eq (rest_bar m c)) $$ Hp
  icases Hp with ⟨-, Hp⟩
  imod (Rounds.cell_close ER (ringRd m) (Set.mem_univ (K (c, none))) (fun h => h) (R := 0 + 1) (duties_later m (barCell c))) $$ [Ha] with Hz
  · isplitr; · iapply (recs_inv m K (c, none)); iexact Hrec
    iexact Ha
  iapply Hk
  isplitl [HO]; · iexists _; iexact HO
  isplitl [Hp] <;> iassumption

/-- What a copy leaves at its destination, named by contents that read the same. -/
theorem landed_eq {c : Dev nD} {sp sp' : Space} {s : Shape} {e : EltTy} (v : View sig .tc sp s e) (v' : View sig .tc sp' s e)
    (fd g : v.ty.Contents (Elt F)) (fs : v'.ty.Contents (Elt F)) (h : v.read (Elt F) g = v'.read (Elt F) fs) :
    (v.loc (c : Thread nD τ) ↦[v.set]{fullShare} (v.write (Elt F) fd (v'.read (Elt F) fs) Finset.univ) : sProp 𝕄)
      = (v.loc (c : Thread nD τ) ↦[v.set]{fullShare} g) := pointsTo_congr (write_agrees v v' fd g fs h)

/-- A transfer to the next device: the source goes to the send cell's round, the landing place — rewritten — to the
    receive cell's. The memrefs, the device and the semaphores are the program's; `src`, `dst` and `nxt c` their plain names. -/
theorem step_send (c n : Dev nD) (hn : n = nxt c) (kS kR : Fin 18) (sS sR : DmaSem sig) (hS : sS = dS kS) (hR : sR = dS kR)
    {s : Shape} {e : EltTy} {src' dst' src dst : Memref sig .tc .vmem s e} (hs : src' = src) (hd : dst' = dst)
    {hsc : (dst' : Memref sig (Dev.tc n : Thread nD τ).2.kind .vmem s e).view.ref.isScScratch = false}
    {hsrc : src'.view.WordExact} {hdst : dst'.view.WordExact}
    {hsem : DmaTarget.Typed .vmem (.dma sR) (.remote (Dev.tc n : Thread nD τ) (dst' : Memref sig (Dev.tc n : Thread nD τ).2.kind .vmem s e) (.dma sS) hsc)}
    (hN : dst.view.amount (.dma sR) = amtN (kS.val + 1)) (hNR : amtN (kR.val + 1) = amtN (kS.val + 1))
    (fs : src.view.ty.Contents (Elt F)) (fd g : dst.view.ty.Contents (Elt F))
    (hg : dst.view.read (Elt F) g = src.view.read (Elt F) fs) (l : List (GSem nD τ sig × ℕ))
    (hpay₁ : (src.view.loc (c : Thread nD τ) ↦[src.view.set]{fullShare} fs) ⊢ payK m c kS)
    (hpay₂ : (dst.view.loc (nxt c : Thread nD τ) ↦[dst.view.set]{fullShare} g) ⊢ payK m (nxt c) kR)
    {α : Type} {Q : α → sProp 𝕄} {k : PUnit → Prog (TpuEff nD τ sig (Elt F) Λ₀ .tc) α} :
    iprop(recs m K ∗ ow c (owR c kR :: l) ∗ (src.view.loc (c : Thread nD τ) ↦[src.view.set]{fullShare} fs)
        ∗ (dst.view.loc (nxt c : Thread nD τ) ↦[dst.view.set]{fullShare} fd)
        ∗ dutyTok ER (dcell c kS) 0 false ∗ dutyTok ER (dcell (nxt c) kR) 0 false)
      ⊢ iprop((iprop(ow c l ∗ cred (tallyAt (dcell c kS) () (amtN (kS.val + 1)))) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src' (.remote (Dev.tc n : Thread nD τ) dst' (.dma sS) hsc) (.dma sR) hsrc hdst hsem) k) Q) := by
  subst hn hS hR hs hd
  unfold ow
  iintro ⟨#Hrec, ⟨%W, HO⟩, Hs, Hd, Ht1, Ht2⟩ Hk
  iapply (Rounds.wp_send_pointsTo 𝒱₀ ER (ringRd m) (c : Thread nD τ) none (κ₁ := K (c, some kS)) (κ₂ := K (nxt c, some kR))
    (r₁ := 0) (r₂ := 0) (d₁ := false) (d₂ := false) (fd := fd)
    (by rw [duties_d]; exact Finset.mem_singleton_self _) (by rw [duties_d]; exact Finset.mem_singleton_self _)
    () () (amtN (kS.val + 1)) hN (amount_d m c kS false) ((amount_d m (nxt c) kR false).trans hNR) (ofL l) (by rw [← hNR]) (W := W)
    (by rw [payload_d]; exact hpay₁)
    (by rw [payload_d]; exact (Entails.of_eq (landed_eq _ _ fd g fs hg)).trans hpay₂)) $$ [HO Hs Hd Ht1 Ht2]
  · isplitr; · iapply (recs_inv m K (c, some kS)); iexact Hrec
    isplitr; · iapply (recs_inv m K (nxt c, some kR)); iexact Hrec
    isplitl [Hs]; · iexact Hs
    isplitl [Hd]; · iexact Hd
    isplitl [HO]; · iexact HO
    isplitl [Ht1]; · iexact Ht1
    isplitr; · iapply (recs_reached m K (c, some kS)); iexact Hrec
    isplitl [Ht2]; · iexact Ht2
    iapply (recs_reached m K (nxt c, some kR)); iexact Hrec
  iintro ⟨Hc, HO⟩
  iapply Hk
  isplitl [HO]; · iexists W; iexact HO
  iexact Hc

/-- The wait on one of the device's own transfer cells: what the cell hands over, and the cell closed. -/
theorem step_wait (c : Dev nD) (kk : Fin 18) (sm : DmaSem sig) (hsm : sm = dS kk) (b : ℕ) (hb : lvN (kk.val + 1) ≤ b)
    {s s' : Shape} {e e' : EltTy} {sp sp' : Space} {src : Memref sig .tc sp' s' e'} {dst' dst : Memref sig .tc sp s e} (hd : dst' = dst) {hsrc : src.view.WordExact} {hdst : dst'.view.WordExact}
    (hN : dst.view.dmaCredit = amtN (kk.val + 1)) (l : List (GSem nD τ sig × ℕ)) (hl : ∀ p ∈ l, p.1.1.2 = .tc ∧ b < lv p.1 ())
    {α : Type} {Q : α → sProp 𝕄} {k : PUnit → Prog (TpuEff nD τ sig (Elt F) Λ₀ .tc) α} :
    iprop(recs m K ∗ levAts L lv ∗ ow c l ∗ cred (tallyAt (dcell c kk) () (amtN (kk.val + 1))) ∗ atPos ER (dcell c kk) 0 ∅ 0)
      ⊢ iprop((iprop(ow c l ∗ payK m c kk ∗ semVal (dcell c kk) 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst' hsrc hdst) k) Q) := by
  subst hsm hd
  unfold ow
  iintro ⟨#Hrec, #Hlev, ⟨%W, HO⟩, Hc, Ha⟩ Hk
  rw [← hN]
  iapply (Rounds.wp_wait_rest_token 𝒱₀ ER (ringRd m) (c : Thread nD τ) none (κ := K (c, some kk))
      (wpE_waitDma2_eq 𝒱₀ (c : Thread nD τ) none Set.univ) (Set.mem_univ _) () (O := ofL l) (W := W) (R := 0) (m := 0) (T := ∅)
      (by rw [expect_d, hN, Nat.zero_add])) $$ [Hc HO Ha]
  · isplitr; · iapply (recs_inv m K (c, some kk)); iexact Hrec
    isplitl [Hc]; · iexact Hc
    isplitl [HO]; · iexact HO
    isplitr; · iapply (mayWait_of c (.dma (dS kk)) l b hb hl); iexact Hlev
    iexact Ha
  iintro ⟨HO, Ha, -, Hp⟩
  ihave Hp := (Entails.of_eq (rest_d m c kk)) $$ Hp
  imod (Rounds.cell_close ER (ringRd m) (Set.mem_univ (K (c, some kk))) (fun h => h) (R := 0 + 1) (duties_later m (dcell c kk))) $$ [Ha] with Hz
  · isplitr; · iapply (recs_inv m K (c, some kk)); iexact Hrec
    iexact Ha
  iapply Hk
  isplitl [HO]; · iexists _; iexact HO
  isplitl [Hp] <;> iassumption

/-- A copy within the device started: what it will deliver at its wait. -/
theorem step_copy (c : Dev nD) (j : Fin 6) (sm : DmaSem sig) (hsm : sm = lS j) {s : Shape} {e : EltTy} {sp sp' : Space}
    {src' src : Memref sig .tc sp s e} {dst' dst : Memref sig .tc sp' s e} (hs : src' = src) (hd : dst' = dst)
    {hsrc : src'.view.WordExact} {hdst : dst'.view.WordExact}
    {hsem : DmaTarget.Typed (nD := nD) (τ := τ) sp (.dma sm) (.here (p := (.tc : Proc τ)) dst')}
    (fs : src.view.ty.Contents (Elt F)) (fd g : dst.view.ty.Contents (Elt F)) (hg : dst.view.read (Elt F) g = src.view.read (Elt F) fs) (hs0 : 0 < s.numel)
    {α : Type} {Q : α → sProp 𝕄} {k : PUnit → Prog (TpuEff nD τ sig (Elt F) Λ₀ .tc) α} :
    iprop((src.view.loc (c : Thread nD τ) ↦[src.view.set]{fullShare} fs) ∗ (dst.view.loc (c : Thread nD τ) ↦[dst.view.set]{fullShare} fd)
        ∗ semVal ((c : Thread nD τ), .dma (lS j)) 0)
      ⊢ iprop((Flight countersEmb (c : Thread nD τ) (.dma (lS j)) () dst.view.dmaCredit
            iprop((dst.view.loc (c : Thread nD τ) ↦[dst.view.set]{fullShare} g) ∗ (src.view.loc (c : Thread nD τ) ↦[src.view.set]{fullShare} fs))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src' (.here dst') (.dma sm) hsrc hdst hsem) k) Q) := by
  subst hsm hs hd
  rw [← landed_eq (c := c) dst'.view src'.view fd g fs hg]
  exact wp_dmaLocal countersEmb 𝒱₀ (c : Thread nD τ) none (src := src') (dst := dst') (sm := .dma (lS j)) (via := ReadAs.same) (hsrc := hsrc) (hdst := hdst)
    (hsem := hsem) (k := k) (q := fullShare) (fs := fs) (Sd := dst'.view.set) (fd := fd) () dst'.view.dmaCredit rfl (View.dmaCredit_pos dst'.view hs0) (Finset.Subset.refl _)

/-- The wait for a copy within the device. -/
theorem step_copied (c : Dev nD) (j : Fin 6) (sm : DmaSem sig) (hsm : sm = lS j) {s s' : Shape} {e e' : EltTy} {sp sp' : Space}
    {src : Memref sig .tc sp' s' e'} {dst' dst : Memref sig .tc sp s e} (hd : dst' = dst) {hsrc : src.view.WordExact} {hdst : dst'.view.WordExact}
    (l : List (GSem nD τ sig × ℕ)) (b : ℕ) (hl : ∀ p ∈ l, p.1.1.2 = .tc ∧ b < lv p.1 ()) (N : ℕ) (hN : dst.view.dmaCredit = N) (D : sProp 𝕄)
    {α : Type} {Q : α → sProp 𝕄} {k : PUnit → Prog (TpuEff nD τ sig (Elt F) Λ₀ .tc) α} :
    iprop(levAts L lv ∗ ow c l ∗ Flight countersEmb (c : Thread nD τ) (.dma (lS j)) () N D)
      ⊢ iprop((iprop(ow c l ∗ D ∗ semVal ((c : Thread nD τ), .dma (lS j)) 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst' hsrc hdst) k) Q) := by
  subst hsm hd
  unfold ow
  iintro ⟨#Hlev, ⟨%W, HO⟩, HF⟩ Hk
  iapply (wp_waitLocalO countersEmb 𝒱₀ (c : Thread nD τ) none () hN) $$ [HO HF]
  · isplitl [HF]; · iexact HF
    isplitl [HO]; · iexact HO
    iapply (mayWait_of c (.dma (lS j)) l 0 (by
      show lvN (j.val + 19) ≤ (0 : ℕ)
      revert j; decide) (lvl_mono (Nat.zero_le b) hl)); iexact Hlev
  iintro ⟨HD, Hz, HO⟩
  iapply Hk
  isplitl [HO]; · iexists _; iexact HO
  isplitl [HD] <;> iassumption

/-- A load, at what it reads. -/
theorem step_load (c : Dev nD) {s : Shape} {e : EltTy} {cs : CoreSpace} {M : Memref sig .tc cs s e} {r : LoadRect s} {hl : M.view.LoadsAt r}
    (S : Finset (Idx (M.view.loc (c : Thread nD τ)))) (f : Buf (Elt F) (M.view.loc (c : Thread nD τ))) (w : r.shape.Idx → Elt F e)
    (hS : M.view.setOn r.set ⊆ S) (hw : M.view.readAt (Elt F) r f = w)
    {α : Type} {Q : α → sProp 𝕄} {k : (r.shape.Idx → Elt F e) → Prog (TpuEff nD τ sig (Elt F) Λ₀ .tc) α} :
    (M.view.loc (c : Thread nD τ) ↦[S]{fullShare} f : sProp 𝕄)
      ⊢ iprop(((M.view.loc (c : Thread nD τ) ↦[S]{fullShare} f) -∗ wp frame (wpE (defs₀ (F := F)) 𝒱₀ (c : Thread nD τ) none) Set.univ (k w) Q)
        -∗ wp frame (wpE (defs₀ (F := F)) 𝒱₀ (c : Thread nD τ) none) Set.univ (.op (.load M r hl) k) Q) := by
  subst hw
  exact wp_load 𝒱₀ (c : Thread nD τ) none Set.univ hS

end Steps

end Cert.Moe

end
-- ==== Proof.Steps.lean ====
/-
# Pieces and accesses of the kernel's buffers

Buffers cut into the blocks the transfers move and put together again, what the body's loads read from them, and the
stores, which all fill a buffer whole.
-/
module

public import proofs.«01_k».proof.Proof.Proto
public import Idealize.ShloMosaic.Lib.Ring

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Ring (pointsTo_blocks pointsTo_blocks_join_exists)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Names of pieces -/

def pA0 (c : Dev nD) : sProp 𝕄 := a0M.view.loc (c : Thread nD τ) ↦[a0M.view.set]{fullShare} arg0 m c
def pA1 (c : Dev nD) : sProp 𝕄 := a1M.view.loc (c : Thread nD τ) ↦[a1M.view.set]{fullShare} arg1 m c
def pA2 (c : Dev nD) (e : Fin 4) : sProp 𝕄 := (a2B e).view.loc (c : Thread nD τ) ↦[(a2B e).view.set]{fullShare} arg2 m c
def pA3 (c : Dev nD) (e : Fin 4) : sProp 𝕄 := (a3B e).view.loc (c : Thread nD τ) ↦[(a3B e).view.set]{fullShare} arg3 m c
def pW1 (c : Dev nD) (s : Fin 2) (e : Fin 4) : sProp 𝕄 := (w1B s).view.loc (c : Thread nD τ) ↦[(w1B s).view.set]{fullShare} W1F m c e
def pW2 (c : Dev nD) (s : Fin 2) (e : Fin 4) : sProp 𝕄 := (w2B s).view.loc (c : Thread nD τ) ↦[(w2B s).view.set]{fullShare} W2F m c e
def uW1 (c : Dev nD) (s : Fin 2) : sProp 𝕄 :=
  iprop(∃ f : Buf (Elt F) ((w1B s).view.loc (c : Thread nD τ)), (w1B s).view.loc (c : Thread nD τ) ↦[(w1B s).view.set]{fullShare} f)
def uW2 (c : Dev nD) (s : Fin 2) : sProp 𝕄 :=
  iprop(∃ f : Buf (Elt F) ((w2B s).view.loc (c : Thread nD τ)), (w2B s).view.loc (c : Thread nD τ) ↦[(w2B s).view.set]{fullShare} f)
/-- A buffer held whole at given contents. -/
abbrev whole (c : Dev nD) (b : Ref sig .tc) (f : Buf (Elt F) ((c : Thread nD τ).loc b)) : sProp 𝕄 := ((c : Thread nD τ).loc b) ↦{fullShare} f

theorem uW1_of (c : Dev nD) (s : Fin 2) (e : Fin 4) : pW1 m c s e ⊢ uW1 c s := by unfold pW1 uW1; iintro H; iexists _; iexact H
theorem uW2_of (c : Dev nD) (s : Fin 2) (e : Fin 4) : pW2 m c s e ⊢ uW2 c s := by unfold pW2 uW2; iintro H; iexists _; iexact H
theorem uR_of (c : Dev nD) (s : Fin 3) : pR m c s ⊢ uR c s := by unfold pR uR; iintro H; iexists _; iexact H

/-! ## The element sets of the pieces -/

theorem set_xB (b : Fin 4) : (xB b).view.set = (Rect.unit (s := S1024x1024) ![256 * b.val, 0] S256x1024.size (inbX b)).set := View.set_slice_whole _ _
theorem set_gB (b : Fin 4) : (gB b).view.set = (Rect.unit (s := S4x1024x4) ![b.val, 0, 0] S1x1024x4.size (inbG b)).set :=
  (View.set_reshape _ _).trans (View.set_slice_whole _ _)
theorem set_rB (b : Fin 3) : (rB b).view.set = (Rect.unit (s := S3x256x1024) ![b.val, 0, 0] S1x256x1024.size (inbR b)).set :=
  (View.set_reshape _ _).trans (View.set_slice_whole _ _)
theorem set_w1B (b : Fin 2) : (w1B b).view.set = (Rect.unit (s := S2x1024x2048) ![b.val, 0, 0] S1x1024x2048.size (inbW1 b)).set :=
  (View.set_reshape _ _).trans (View.set_slice_whole _ _)
theorem set_w2B (b : Fin 2) : (w2B b).view.set = (Rect.unit (s := S2x2048x1024) ![b.val, 0, 0] S1x2048x1024.size (inbW2 b)).set :=
  (View.set_reshape _ _).trans (View.set_slice_whole _ _)
theorem set_a2B (b : Fin 4) : (a2B b).view.set = (Rect.unit (s := S4x1024x2048) ![b.val, 0, 0] S1x1024x2048.size (inbA2 b)).set :=
  (View.set_reshape _ _).trans (View.set_slice_whole _ _)
theorem set_a3B (b : Fin 4) : (a3B b).view.set = (Rect.unit (s := S4x2048x1024) ![b.val, 0, 0] S1x2048x1024.size (inbA3 b)).set :=
  (View.set_reshape _ _).trans (View.set_slice_whole _ _)

/-- The same sets as sets of the whole buffer's positions. -/
abbrev sX (b : Fin 4) : Finset S1024x1024.Idx := (xB b).view.set
abbrev sG (b : Fin 4) : Finset S4x1024x4.Idx := (gB b).view.set
abbrev sR (b : Fin 3) : Finset S3x256x1024.Idx := (rB b).view.set
abbrev sW1 (b : Fin 2) : Finset S2x1024x2048.Idx := (w1B b).view.set
abbrev sW2 (b : Fin 2) : Finset S2x2048x1024.Idx := (w2B b).view.set
abbrev sA2 (b : Fin 4) : Finset S4x1024x2048.Idx := (a2B b).view.set
abbrev sA3 (b : Fin 4) : Finset S4x2048x1024.Idx := (a3B b).view.set

/-- The slices of an array along its first of three axes cover it and are pairwise disjoint. -/
theorem slabs {n a b : ℕ} {I : Fin n → Finset (⟨3, ![n, a, b]⟩ : Shape).Idx}
    {inb : ∀ k : Fin n, ∀ x, (![k.val, 0, 0] : Fin 3 → ℕ) x + (![1, a, b] : Fin 3 → ℕ) x ≤ (⟨3, ![n, a, b]⟩ : Shape).size x}
    (hI : ∀ k, I k = (Rect.unit (s := ⟨3, ![n, a, b]⟩) ![k.val, 0, 0] ![1, a, b] (inb k)).set) :
    (∀ k k', k ≠ k' → Disjoint (I k) (I k')) ∧ (∀ i, ∃ k, i ∈ I k) := by
  constructor
  · intro k k' h
    rw [hI, hI]
    refine Rect.unit_disjoint (s := ⟨3, ![n, a, b]⟩) 0 ?_
    show k.val + 1 ≤ k'.val ∨ k'.val + 1 ≤ k.val
    have : k.val ≠ k'.val := fun e => h (Fin.ext e)
    omega
  · intro i
    refine ⟨(i 0 : Fin n), ?_⟩
    rw [hI (i 0 : Fin n), Rect.mem_set_unit]
    intro x
    fin_cases x
    · exact ⟨le_refl _, Nat.lt_succ_self _⟩
    · exact ⟨Nat.zero_le _, by have h : (i 1).val < a := (i 1).isLt; show (i 1).val < 0 + a; omega⟩
    · exact ⟨Nat.zero_le _, by have h : (i 2).val < b := (i 2).isLt; show (i 2).val < 0 + b; omega⟩
theorem bands : (∀ k k' : Fin 4, k ≠ k' → Disjoint (sX k) (sX k')) ∧ (∀ i, ∃ k, i ∈ sX k) := by
  constructor
  · intro k k' h
    unfold sX; rw [set_xB, set_xB]
    refine Rect.unit_disjoint (s := S1024x1024) 0 ?_
    show 256 * k.val + 256 ≤ 256 * k'.val ∨ 256 * k'.val + 256 ≤ 256 * k.val
    have : k.val ≠ k'.val := fun e => h (Fin.ext e)
    omega
  · intro i
    have h0 : (i 0).val < 1024 := (i 0).isLt
    refine ⟨⟨(i 0).val / 256, by omega⟩, ?_⟩
    unfold sX; rw [set_xB, Rect.mem_set_unit]
    intro x
    fin_cases x
    · exact ⟨by show 256 * ((i 0).val / 256) ≤ (i 0).val; omega, by show (i 0).val < 256 * ((i 0).val / 256) + 256; omega⟩
    · exact ⟨Nat.zero_le _, by have h : (i 1).val < 1024 := (i 1).isLt; show (i 1).val < 0 + 1024; omega⟩
theorem slabs_g : (∀ k k' : Fin 4, k ≠ k' → Disjoint (sG k) (sG k')) ∧ (∀ i, ∃ k, i ∈ sG k) := slabs set_gB
theorem slabs_r : (∀ k k' : Fin 3, k ≠ k' → Disjoint (sR k) (sR k')) ∧ (∀ i, ∃ k, i ∈ sR k) := slabs set_rB
theorem slabs_w1 : (∀ k k' : Fin 2, k ≠ k' → Disjoint (sW1 k) (sW1 k')) ∧ (∀ i, ∃ k, i ∈ sW1 k) := slabs set_w1B
theorem slabs_w2 : (∀ k k' : Fin 2, k ≠ k' → Disjoint (sW2 k) (sW2 k')) ∧ (∀ i, ∃ k, i ∈ sW2 k) := slabs set_w2B
theorem slabs_a2 : (∀ k k' : Fin 4, k ≠ k' → Disjoint (sA2 k) (sA2 k')) ∧ (∀ i, ∃ k, i ∈ sA2 k) := slabs set_a2B
theorem slabs_a3 : (∀ k k' : Fin 4, k ≠ k' → Disjoint (sA3 k) (sA3 k')) ∧ (∀ i, ∃ k, i ∈ sA3 k) := slabs set_a3B

/-! ## Cutting and joining -/

section Blocks
variable {ℓ : Loc nD τ sig} {B : Type} [Fintype B] [DecidableEq B] (I : B → Finset (Idx ℓ))
  (h : (∀ b b', b ≠ b' → Disjoint (I b) (I b')) ∧ ∀ i, ∃ b, i ∈ I b)
include h

theorem blocks (f : Buf (Elt F) ℓ) : (ℓ ↦{fullShare} f : sProp 𝕄) = bigSep Finset.univ fun b => ℓ ↦[I b]{fullShare} f :=
  pointsTo_blocks I h.1 (by ext i; simpa using h.2 i) f
theorem blocks_join (f₀ : Buf (Elt F) ℓ) : bigSep Finset.univ (fun b => iprop(∃ f, ℓ ↦[I b]{fullShare} f)) ⊢ (iprop(∃ g, ℓ ↦{fullShare} g) : sProp 𝕄) :=
  pointsTo_blocks_join_exists I h.1 (by ext i; simpa using h.2 i) f₀
end Blocks

/-- Four things, listed from a device's own backwards round the ring. -/
theorem around (c : Dev nD) (Φ : Fin 4 → sProp 𝕄) : bigSep Finset.univ Φ = iprop(Φ (bk c 0) ∗ Φ (bk c 1) ∗ Φ (bk c 2) ∗ Φ (bk c 3)) := by
  rw [bigSep_univ_eq_bigSepL [bk c 0, bk c 1, bk c 2, bk c 3] (by revert c; decide) (by revert c; decide)]; rfl
theorem four (Φ : Fin 4 → sProp 𝕄) : bigSep Finset.univ Φ = iprop(Φ 0 ∗ Φ 1 ∗ Φ 2 ∗ Φ 3) := by
  rw [bigSep_univ_eq_bigSepL [0, 1, 2, 3] (by decide) (by decide)]; rfl
theorem three (Φ : Fin 3 → sProp 𝕄) : bigSep Finset.univ Φ = iprop(Φ 0 ∗ Φ 1 ∗ Φ 2) := by
  rw [bigSep_univ_eq_bigSepL [0, 1, 2] (by decide) (by decide)]; rfl
theorem two (Φ : Fin 2 → sProp 𝕄) : bigSep Finset.univ Φ = iprop(Φ 0 ∗ Φ 1) := by
  rw [bigSep_univ_eq_bigSepL [0, 1] (by decide) (by decide)]; rfl

theorem split_x (c : Dev nD) (f) : whole c cc0_scratch0 f ⊢ iprop(uX (F := F) c (bk c 0) ∗ uX c (bk c 1) ∗ uX c (bk c 2) ∗ uX c (bk c 3)) := by
  unfold whole
  rw [blocks (ℓ := (c : Thread nD τ).loc cc0_scratch0) sX bands, around c]
  exact sep_mono (exists_intro _) (sep_mono (exists_intro _) (sep_mono (exists_intro _) (exists_intro _)))
theorem join_x (c : Dev nD) : iprop(pX m c (bk c 0) ∗ pX m c (bk c 1) ∗ pX m c (bk c 2) ∗ pX m c (bk c 3)) ⊢ whole c cc0_scratch0 (XF m) := by
  unfold whole
  rw [blocks (ℓ := (c : Thread nD τ).loc cc0_scratch0) sX bands, around c]
  exact Entails.rfl
theorem split_g (c : Dev nD) (f) : whole c cc0_scratch1 f ⊢ iprop(uG (F := F) c (bk c 0) ∗ uG c (bk c 1) ∗ uG c (bk c 2) ∗ uG c (bk c 3)) := by
  unfold whole
  rw [blocks (ℓ := (c : Thread nD τ).loc cc0_scratch1) sG slabs_g, around c]
  exact sep_mono (exists_intro _) (sep_mono (exists_intro _) (sep_mono (exists_intro _) (exists_intro _)))
theorem join_g (c : Dev nD) : iprop(pG m c (bk c 0) ∗ pG m c (bk c 1) ∗ pG m c (bk c 2) ∗ pG m c (bk c 3)) ⊢ whole c cc0_scratch1 (GF m) := by
  unfold whole
  rw [blocks (ℓ := (c : Thread nD τ).loc cc0_scratch1) sG slabs_g, around c]
  exact Entails.rfl
theorem split_r (c : Dev nD) (f) : whole c cc0_scratch6 f ⊢ iprop(uR (F := F) c 0 ∗ uR c 1 ∗ uR c 2) := by
  unfold whole
  rw [blocks (ℓ := (c : Thread nD τ).loc cc0_scratch6) sR slabs_r, three]
  exact sep_mono (exists_intro _) (sep_mono (exists_intro _) (exists_intro _))
theorem join_r (c : Dev nD) (f₀ : Buf (Elt F) ((c : Thread nD τ).loc cc0_scratch6)) : iprop(uR (F := F) c 0 ∗ uR c 1 ∗ uR c 2) ⊢ iprop(∃ f, whole c cc0_scratch6 f) := by
  have h := blocks_join (ℓ := (c : Thread nD τ).loc cc0_scratch6) sR slabs_r f₀
  rw [three] at h
  exact h
theorem split_w1 (c : Dev nD) (f) : whole c cc0_scratch2 f ⊢ iprop(uW1 (F := F) c 0 ∗ uW1 c 1) := by
  unfold whole
  rw [blocks (ℓ := (c : Thread nD τ).loc cc0_scratch2) sW1 slabs_w1, two]
  exact sep_mono (exists_intro _) (exists_intro _)
theorem join_w1 (c : Dev nD) (f₀ : Buf (Elt F) ((c : Thread nD τ).loc cc0_scratch2)) : iprop(uW1 (F := F) c 0 ∗ uW1 c 1) ⊢ iprop(∃ f, whole c cc0_scratch2 f) := by
  have h := blocks_join (ℓ := (c : Thread nD τ).loc cc0_scratch2) sW1 slabs_w1 f₀
  rw [two] at h
  exact h
theorem split_w2 (c : Dev nD) (f) : whole c cc0_scratch3 f ⊢ iprop(uW2 (F := F) c 0 ∗ uW2 c 1) := by
  unfold whole
  rw [blocks (ℓ := (c : Thread nD τ).loc cc0_scratch3) sW2 slabs_w2, two]
  exact sep_mono (exists_intro _) (exists_intro _)
theorem join_w2 (c : Dev nD) (f₀ : Buf (Elt F) ((c : Thread nD τ).loc cc0_scratch3)) : iprop(uW2 (F := F) c 0 ∗ uW2 c 1) ⊢ iprop(∃ f, whole c cc0_scratch3 f) := by
  have h := blocks_join (ℓ := (c : Thread nD τ).loc cc0_scratch3) sW2 slabs_w2 f₀
  rw [two] at h
  exact h
theorem cut_a2 (c : Dev nD) : whole c main_arg2 (arg2 m c) = iprop(pA2 m c 0 ∗ pA2 m c 1 ∗ pA2 m c 2 ∗ pA2 m c 3) := by
  unfold whole
  rw [blocks (ℓ := (c : Thread nD τ).loc main_arg2) sA2 slabs_a2, four]
  rfl
theorem cut_a3 (c : Dev nD) : whole c main_arg3 (arg3 m c) = iprop(pA3 m c 0 ∗ pA3 m c 1 ∗ pA3 m c 2 ∗ pA3 m c 3) := by
  unfold whole
  rw [blocks (ℓ := (c : Thread nD τ).loc main_arg3) sA3 slabs_a3, four]
  rfl
theorem whole_a0 (c : Dev nD) : whole c main_arg0 (arg0 m c) = pA0 m c := by unfold pA0; rw [View.set_whole]
theorem whole_a1 (c : Dev nD) : whole c main_arg1 (arg1 m c) = pA1 m c := by unfold pA1; rw [View.set_whole]
theorem whole_s (c : Dev nD) (d) : whole c cc0_scratch5 d = pS (F := F) c d := by unfold pS; rw [View.set_whole]

/-! ## The program's slices by their plain names -/

theorem xSl {off : Fin 2 → ℕ} {b : Fin 4} (h : off = ![256 * b.val, 0]) {p : ∀ a, off a + S256x1024.size a ≤ S1024x1024.size a} {hs} :
    xM.slice (Rect.unit (s := S1024x1024) off S256x1024.size p) hs = xB b := Memref.slice_unit_congr _ h _ _ _ _
theorem gSl {off : Fin 3 → ℕ} {b : Fin 4} (h : off = ![b.val, 0, 0]) {p : ∀ a, off a + S1x1024x4.size a ≤ S4x1024x4.size a} {hs} {hq} :
    (gM.slice (Rect.unit (s := S4x1024x4) off S1x1024x4.size p) hs).squeeze S1024x4 hq = gB b := by subst h; rfl

/-! ## Loads -/

theorem zero2 : (![0, 0] : Fin 2 → ℕ) = fun _ => 0 := by decide

section Accesses
variable (c : Dev nD)

theorem load_x {inb : ∀ a, (![0, 0] : Fin S1024x1024.rank → ℕ) a + S1024x1024.size a ≤ S1024x1024.size a} {hl : xM.view.LoadsAt (Rect.unit (s := S1024x1024) ![0, 0] S1024x1024.size inb).toLoadRect} (f : FVec F S1024x1024 .f32) {α : Type} {Q : α → sProp 𝕄} {k : ((Rect.unit (s := S1024x1024) ![0, 0] S1024x1024.size inb).toLoadRect.shape.Idx → Elt F .f32) → Prog (TpuEff nD τ sig (Elt F) Λ₀ .tc) α} :
    whole c cc0_scratch0 f
      ⊢ iprop((whole c cc0_scratch0 f -∗ wp frame (wpE (defs₀ (F := F)) 𝒱₀ (c : Thread nD τ) none) Set.univ (k f) Q)
        -∗ wp frame (wpE (defs₀ (F := F)) 𝒱₀ (c : Thread nD τ) none) Set.univ
            (.op (.load xM (Rect.unit (s := S1024x1024) ![0, 0] S1024x1024.size inb).toLoadRect hl) k) Q) :=
  step_load c (M := xM) (r := (Rect.unit (s := S1024x1024) ![0, 0] S1024x1024.size inb).toLoadRect) Finset.univ f f (Finset.subset_univ _) (Memref.readAt_unit_zero (Elt F) cc0_scratch0 zero2 inb f)
theorem load_acc {inb : ∀ a, (![0, 0] : Fin S1024x1024.rank → ℕ) a + S1024x1024.size a ≤ S1024x1024.size a} {hl : accM.view.LoadsAt (Rect.unit (s := S1024x1024) ![0, 0] S1024x1024.size inb).toLoadRect} (f : FVec F S1024x1024 .f32) {α : Type} {Q : α → sProp 𝕄} {k : ((Rect.unit (s := S1024x1024) ![0, 0] S1024x1024.size inb).toLoadRect.shape.Idx → Elt F .f32) → Prog (TpuEff nD τ sig (Elt F) Λ₀ .tc) α} :
    whole c cc0_scratch4 f
      ⊢ iprop((whole c cc0_scratch4 f -∗ wp frame (wpE (defs₀ (F := F)) 𝒱₀ (c : Thread nD τ) none) Set.univ (k f) Q)
        -∗ wp frame (wpE (defs₀ (F := F)) 𝒱₀ (c : Thread nD τ) none) Set.univ
            (.op (.load accM (Rect.unit (s := S1024x1024) ![0, 0] S1024x1024.size inb).toLoadRect hl) k) Q) :=
  step_load c (M := accM) (r := (Rect.unit (s := S1024x1024) ![0, 0] S1024x1024.size inb).toLoadRect) Finset.univ f f (Finset.subset_univ _) (Memref.readAt_unit_zero (Elt F) cc0_scratch4 zero2 inb f)
theorem load_s {inb : ∀ a, (![0, 0] : Fin S256x1024.rank → ℕ) a + S256x1024.size a ≤ S256x1024.size a} {hl : sM.view.LoadsAt (Rect.unit (s := S256x1024) ![0, 0] S256x1024.size inb).toLoadRect} (f : FVec F S256x1024 .f32) {α : Type} {Q : α → sProp 𝕄} {k : ((Rect.unit (s := S256x1024) ![0, 0] S256x1024.size inb).toLoadRect.shape.Idx → Elt F .f32) → Prog (TpuEff nD τ sig (Elt F) Λ₀ .tc) α} :
    whole c cc0_scratch5 f
      ⊢ iprop((whole c cc0_scratch5 f -∗ wp frame (wpE (defs₀ (F := F)) 𝒱₀ (c : Thread nD τ) none) Set.univ (k f) Q)
        -∗ wp frame (wpE (defs₀ (F := F)) 𝒱₀ (c : Thread nD τ) none) Set.univ
            (.op (.load sM (Rect.unit (s := S256x1024) ![0, 0] S256x1024.size inb).toLoadRect hl) k) Q) :=
  step_load c (M := sM) (r := (Rect.unit (s := S256x1024) ![0, 0] S256x1024.size inb).toLoadRect) Finset.univ f f (Finset.subset_univ _) (Memref.readAt_unit_zero (Elt F) cc0_scratch5 zero2 inb f)
theorem load_o {inb : ∀ a, (![0, 0] : Fin S256x1024.rank → ℕ) a + S256x1024.size a ≤ S256x1024.size a} {hl : oM.view.LoadsAt (Rect.unit (s := S256x1024) ![0, 0] S256x1024.size inb).toLoadRect} (f : FVec F S256x1024 .f32) {α : Type} {Q : α → sProp 𝕄} {k : ((Rect.unit (s := S256x1024) ![0, 0] S256x1024.size inb).toLoadRect.shape.Idx → Elt F .f32) → Prog (TpuEff nD τ sig (Elt F) Λ₀ .tc) α} :
    whole c cc0_stg0_0 f
      ⊢ iprop((whole c cc0_stg0_0 f -∗ wp frame (wpE (defs₀ (F := F)) 𝒱₀ (c : Thread nD τ) none) Set.univ (k f) Q)
        -∗ wp frame (wpE (defs₀ (F := F)) 𝒱₀ (c : Thread nD τ) none) Set.univ
            (.op (.load oM (Rect.unit (s := S256x1024) ![0, 0] S256x1024.size inb).toLoadRect hl) k) Q) :=
  step_load c (M := oM) (r := (Rect.unit (s := S256x1024) ![0, 0] S256x1024.size inb).toLoadRect) Finset.univ f f (Finset.subset_univ _) (Memref.readAt_unit_zero (Elt F) cc0_stg0_0 zero2 inb f)

/-- Loads of one slab of an array of three axes. -/
theorem load_g (b : Fin 4) {off : Fin 3 → ℕ} (hoff : off = ![b.val, 0, 0]) {inb : ∀ a, (off : Fin S4x1024x4.rank → ℕ) a + S1x1024x4.size a ≤ S4x1024x4.size a} {hl : gM.view.LoadsAt (Rect.unit (s := S4x1024x4) off S1x1024x4.size inb).toLoadRect} {α : Type} {Q : α → sProp 𝕄} {k : ((Rect.unit (s := S4x1024x4) off S1x1024x4.size inb).toLoadRect.shape.Idx → Elt F .f32) → Prog (TpuEff nD τ sig (Elt F) Λ₀ .tc) α} :
    whole c cc0_scratch1 (GF m)
      ⊢ iprop((whole c cc0_scratch1 (GF m) -∗ wp frame (wpE (defs₀ (F := F)) 𝒱₀ (c : Thread nD τ) none) Set.univ (k (gRow m b)) Q)
        -∗ wp frame (wpE (defs₀ (F := F)) 𝒱₀ (c : Thread nD τ) none) Set.univ
            (.op (.load gM (Rect.unit (s := S4x1024x4) off S1x1024x4.size inb).toLoadRect hl) k) Q) := by
  subst hoff
  refine step_load c (M := gM) (r := (Rect.unit (s := S4x1024x4) ![b.val, 0, 0] S1x1024x4.size inb).toLoadRect) Finset.univ (GF m) (gRow m b) (Finset.subset_univ _) ?_
  rw [View.readAt_rect]
  funext i
  rw [View.read_apply]
  show GF m _ = gRow m b i
  unfold GF gRow
  congr 1
  · apply Fin.ext; have h : (i 0).val < 1 := (i 0).isLt; show b.val + 1 * (i 0).val = b.val; omega
  · congr 1 <;> apply Fin.ext
    · show 0 + 1 * (i 1).val = (i 1).val; omega
    · show 0 + 1 * (i 2).val = (i 2).val; omega
theorem load_w1 (s : Fin 2) (e : Fin 4) {off : Fin 3 → ℕ} (hoff : off = ![s.val, 0, 0]) {inb : ∀ a, (off : Fin S2x1024x2048.rank → ℕ) a + S1x1024x2048.size a ≤ S2x1024x2048.size a} {hl : w1M.view.LoadsAt (Rect.unit (s := S2x1024x2048) off S1x1024x2048.size inb).toLoadRect} {α : Type} {Q : α → sProp 𝕄} {k : ((Rect.unit (s := S2x1024x2048) off S1x1024x2048.size inb).toLoadRect.shape.Idx → Elt F .f32) → Prog (TpuEff nD τ sig (Elt F) Λ₀ .tc) α} :
    pW1 m c s e
      ⊢ iprop((pW1 m c s e -∗ wp frame (wpE (defs₀ (F := F)) 𝒱₀ (c : Thread nD τ) none) Set.univ (k (w1Row m c e)) Q)
        -∗ wp frame (wpE (defs₀ (F := F)) 𝒱₀ (c : Thread nD τ) none) Set.univ
            (.op (.load w1M (Rect.unit (s := S2x1024x2048) off S1x1024x2048.size inb).toLoadRect hl) k) Q) := by
  subst hoff
  refine step_load c (M := w1M) (r := (Rect.unit (s := S2x1024x2048) ![s.val, 0, 0] S1x1024x2048.size inb).toLoadRect) (w1B s).view.set (W1F m c e) (w1Row m c e) ?_ ?_
  · rw [View.set_reshape, View.set_slice]; exact Finset.Subset.refl _
  · rw [View.readAt_rect]
    funext i
    rw [View.read_apply]
    show W1F m c e _ = w1Row m c e i
    unfold W1F w1Row
    congr 2 <;> apply Fin.ext
    · show 0 + 1 * (i 1).val = (i 1).val; omega
    · show 0 + 1 * (i 2).val = (i 2).val; omega
theorem load_w2 (s : Fin 2) (e : Fin 4) {off : Fin 3 → ℕ} (hoff : off = ![s.val, 0, 0]) {inb : ∀ a, (off : Fin S2x2048x1024.rank → ℕ) a + S1x2048x1024.size a ≤ S2x2048x1024.size a} {hl : w2M.view.LoadsAt (Rect.unit (s := S2x2048x1024) off S1x2048x1024.size inb).toLoadRect} {α : Type} {Q : α → sProp 𝕄} {k : ((Rect.unit (s := S2x2048x1024) off S1x2048x1024.size inb).toLoadRect.shape.Idx → Elt F .f32) → Prog (TpuEff nD τ sig (Elt F) Λ₀ .tc) α} :
    pW2 m c s e
      ⊢ iprop((pW2 m c s e -∗ wp frame (wpE (defs₀ (F := F)) 𝒱₀ (c : Thread nD τ) none) Set.univ (k (w2Row m c e)) Q)
        -∗ wp frame (wpE (defs₀ (F := F)) 𝒱₀ (c : Thread nD τ) none) Set.univ
            (.op (.load w2M (Rect.unit (s := S2x2048x1024) off S1x2048x1024.size inb).toLoadRect hl) k) Q) := by
  subst hoff
  refine step_load c (M := w2M) (r := (Rect.unit (s := S2x2048x1024) ![s.val, 0, 0] S1x2048x1024.size inb).toLoadRect) (w2B s).view.set (W2F m c e) (w2Row m c e) ?_ ?_
  · rw [View.set_reshape, View.set_slice]; exact Finset.Subset.refl _
  · rw [View.readAt_rect]
    funext i
    rw [View.read_apply]
    show W2F m c e _ = w2Row m c e i
    unfold W2F w2Row
    congr 2 <;> apply Fin.ext
    · show 0 + 1 * (i 1).val = (i 1).val; omega
    · show 0 + 1 * (i 2).val = (i 2).val; omega
theorem load_r (s : Fin 3) {off : Fin 3 → ℕ} (hoff : off = ![s.val, 0, 0]) {inb : ∀ a, (off : Fin S3x256x1024.rank → ℕ) a + S1x256x1024.size a ≤ S3x256x1024.size a} {hl : rM.view.LoadsAt (Rect.unit (s := S3x256x1024) off S1x256x1024.size inb).toLoadRect} {α : Type} {Q : α → sProp 𝕄} {k : ((Rect.unit (s := S3x256x1024) off S1x256x1024.size inb).toLoadRect.shape.Idx → Elt F .f32) → Prog (TpuEff nD τ sig (Elt F) Λ₀ .tc) α} :
    pR m c s
      ⊢ iprop((pR m c s -∗ wp frame (wpE (defs₀ (F := F)) 𝒱₀ (c : Thread nD τ) none) Set.univ (k (up3 (DS m s (prv c)))) Q)
        -∗ wp frame (wpE (defs₀ (F := F)) 𝒱₀ (c : Thread nD τ) none) Set.univ
            (.op (.load rM (Rect.unit (s := S3x256x1024) off S1x256x1024.size inb).toLoadRect hl) k) Q) := by
  subst hoff
  refine step_load c (M := rM) (r := (Rect.unit (s := S3x256x1024) ![s.val, 0, 0] S1x256x1024.size inb).toLoadRect) (rB s).view.set (RF m c) (up3 (DS m s (prv c))) ?_ ?_
  · rw [View.set_reshape, View.set_slice]; exact Finset.Subset.refl _
  · rw [View.readAt_rect]
    funext i
    rw [View.read_apply]
    show RF m c _ = up3 (DS m s (prv c)) i
    unfold RF up3
    congr 1
    · congr 1; apply Fin.ext; have h : (i 0).val < 1 := (i 0).isLt; show s.val + 1 * (i 0).val = s.val; omega
    · congr 1 <;> apply Fin.ext
      · show 0 + 1 * (i 1).val = (i 1).val; omega
      · show 0 + 1 * (i 2).val = (i 2).val; omega
/-- A load of one band of the finished accumulator. -/
theorem load_band (b : Fin 4) {off : Fin 2 → ℕ} (hoff : off = ![256 * b.val, 0]) {inb : ∀ a, (off : Fin S1024x1024.rank → ℕ) a + S256x1024.size a ≤ S1024x1024.size a} {hl : accM.view.LoadsAt (Rect.unit (s := S1024x1024) off S256x1024.size inb).toLoadRect} {α : Type} {Q : α → sProp 𝕄} {k : ((Rect.unit (s := S1024x1024) off S256x1024.size inb).toLoadRect.shape.Idx → Elt F .f32) → Prog (TpuEff nD τ sig (Elt F) Λ₀ .tc) α} :
    whole c cc0_scratch4 (acc4 m c)
      ⊢ iprop((whole c cc0_scratch4 (acc4 m c) -∗ wp frame (wpE (defs₀ (F := F)) 𝒱₀ (c : Thread nD τ) none) Set.univ (k (accB m c b)) Q)
        -∗ wp frame (wpE (defs₀ (F := F)) 𝒱₀ (c : Thread nD τ) none) Set.univ
            (.op (.load accM (Rect.unit (s := S1024x1024) off S256x1024.size inb).toLoadRect hl) k) Q) := by
  subst hoff
  refine step_load c (M := accM) (r := (Rect.unit (s := S1024x1024) ![256 * b.val, 0] S256x1024.size inb).toLoadRect) Finset.univ (acc4 m c) (accB m c b) (Finset.subset_univ _) ?_
  rw [View.readAt_rect]
  funext i
  rw [View.read_apply]
  show acc4 m c _ = accB m c b i
  unfold accB
  congr 1
  funext a; apply Fin.ext
  fin_cases a
  · show 256 * b.val + 1 * (i 0).val = 256 * b.val + (i 0).val; omega
  · show 0 + 1 * (i 1).val = (i 1).val; omega

/-! ## Stores -/

/-- A store over a whole buffer, at what it leaves. -/
theorem step_store {s : Shape} {e : EltTy} {cs : CoreSpace} {M : Memref sig .tc cs s e} {r : Rect s} {w : r.shape.Idx → Elt F e}
    {hx : (M.access r).Stores Finset.univ} {hm : (Finset.univ : Finset r.shape.Idx) = Finset.univ ∨ ∀ a, r.stride a = 1}
    (f f' : Buf (Elt F) ((M.access r).loc (c : Thread nD τ))) (hw : (M.access r).write (Elt F) f w Finset.univ = f')
    {α : Type} {Q : α → sProp 𝕄} {k : PUnit → Prog (TpuEff nD τ sig (Elt F) Λ₀ .tc) α} :
    ((M.access r).loc (c : Thread nD τ) ↦{fullShare} f : sProp 𝕄)
      ⊢ iprop((((M.access r).loc (c : Thread nD τ) ↦{fullShare} f') -∗ wp frame (wpE (defs₀ (F := F)) 𝒱₀ (c : Thread nD τ) none) Set.univ (k ⟨⟩) Q)
        -∗ wp frame (wpE (defs₀ (F := F)) 𝒱₀ (c : Thread nD τ) none) Set.univ (.op (.store M r w Finset.univ hx hm) k) Q) := by
  subst hw
  exact wp_store 𝒱₀ (c : Thread nD τ) none Set.univ (Finset.subset_univ _)
theorem store_acc {inb : ∀ a, (![0, 0] : Fin S1024x1024.rank → ℕ) a + S1024x1024.size a ≤ S1024x1024.size a} {hx} {hm} (f w : FVec F S1024x1024 .f32)
    {α : Type} {Q : α → sProp 𝕄} {k : PUnit → Prog (TpuEff nD τ sig (Elt F) Λ₀ .tc) α} :
    whole c cc0_scratch4 f
      ⊢ iprop((whole c cc0_scratch4 w -∗ wp frame (wpE (defs₀ (F := F)) 𝒱₀ (c : Thread nD τ) none) Set.univ (k ⟨⟩) Q)
        -∗ wp frame (wpE (defs₀ (F := F)) 𝒱₀ (c : Thread nD τ) none) Set.univ
            (.op (.store accM (Rect.unit (s := S1024x1024) ![0, 0] S1024x1024.size inb) w Finset.univ hx hm) k) Q) :=
  step_store c (M := accM) (r := Rect.unit (s := S1024x1024) ![0, 0] S1024x1024.size inb) (w := w) f w (Memref.write_access_unit_zero_univ (Elt F) cc0_scratch4 zero2 inb f w)
theorem store_s {inb : ∀ a, (![0, 0] : Fin S256x1024.rank → ℕ) a + S256x1024.size a ≤ S256x1024.size a} {hx} {hm} (f w : FVec F S256x1024 .f32)
    {α : Type} {Q : α → sProp 𝕄} {k : PUnit → Prog (TpuEff nD τ sig (Elt F) Λ₀ .tc) α} :
    whole c cc0_scratch5 f
      ⊢ iprop((whole c cc0_scratch5 w -∗ wp frame (wpE (defs₀ (F := F)) 𝒱₀ (c : Thread nD τ) none) Set.univ (k ⟨⟩) Q)
        -∗ wp frame (wpE (defs₀ (F := F)) 𝒱₀ (c : Thread nD τ) none) Set.univ
            (.op (.store sM (Rect.unit (s := S256x1024) ![0, 0] S256x1024.size inb) w Finset.univ hx hm) k) Q) :=
  step_store c (M := sM) (r := Rect.unit (s := S256x1024) ![0, 0] S256x1024.size inb) (w := w) f w (Memref.write_access_unit_zero_univ (Elt F) cc0_scratch5 zero2 inb f w)
theorem store_o {inb : ∀ a, (![0, 0] : Fin S256x1024.rank → ℕ) a + S256x1024.size a ≤ S256x1024.size a} {hx} {hm} (f w : FVec F S256x1024 .f32)
    {α : Type} {Q : α → sProp 𝕄} {k : PUnit → Prog (TpuEff nD τ sig (Elt F) Λ₀ .tc) α} :
    whole c cc0_stg0_0 f
      ⊢ iprop((whole c cc0_stg0_0 w -∗ wp frame (wpE (defs₀ (F := F)) 𝒱₀ (c : Thread nD τ) none) Set.univ (k ⟨⟩) Q)
        -∗ wp frame (wpE (defs₀ (F := F)) 𝒱₀ (c : Thread nD τ) none) Set.univ
            (.op (.store oM (Rect.unit (s := S256x1024) ![0, 0] S256x1024.size inb) w Finset.univ hx hm) k) Q) :=
  step_store c (M := oM) (r := Rect.unit (s := S256x1024) ![0, 0] S256x1024.size inb) (w := w) f w (Memref.write_access_unit_zero_univ (Elt F) cc0_stg0_0 zero2 inb f w)

end Accesses

/-! ## The steps at the kernel's own pieces -/

/-- A local copy's semaphore at rest. -/
abbrev lz (c : Dev nD) (j : Fin 6) : sProp 𝕄 := semVal ((c : Thread nD τ), .dma (lS j)) 0
abbrev jW1 (s : Fin 2) : Fin 6 := ⟨2 + s.val, by omega⟩
abbrev jW2 (s : Fin 2) : Fin 6 := ⟨4 + s.val, by omega⟩
/-- The copies in flight: the two operands', and an expert's weights' on their way to a slot. -/
def fX (c : Dev nD) : sProp 𝕄 := Flight countersEmb (c : Thread nD τ) (.dma (lS 0)) () NX iprop(pX m c (bk c 0) ∗ pA0 m c)
def fG (c : Dev nD) : sProp 𝕄 := Flight countersEmb (c : Thread nD τ) (.dma (lS 1)) () NG iprop(pG m c (bk c 0) ∗ pA1 m c)
def fW1 (c : Dev nD) (s : Fin 2) (e : Fin 4) : sProp 𝕄 :=
  Flight countersEmb (c : Thread nD τ) (.dma (lS (jW1 s))) () (w1B s).view.dmaCredit iprop(pW1 m c s e ∗ pA2 m c e)
def fW2 (c : Dev nD) (s : Fin 2) (e : Fin 4) : sProp 𝕄 :=
  Flight countersEmb (c : Thread nD τ) (.dma (lS (jW2 s))) () (w2B s).view.dmaCredit iprop(pW2 m c s e ∗ pA3 m c e)

section Own
variable (K : Dev nD × Option (Fin 18) → ℕ) (c : Dev nD)

theorem copy_x (sm : DmaSem sig) (hsm : sm = lS 0) {src' : Memref sig .tc .hbm S256x1024 .f32} {dst' : Memref sig .tc .vmem S256x1024 .f32}
    (hs : src' = a0M) (hd : dst' = xB (bk c 0)) {hsrc : src'.view.WordExact} {hdst : dst'.view.WordExact}
    {hsem : DmaTarget.Typed (nD := nD) (τ := τ) .hbm (.dma sm) (.here (p := (.tc : Proc τ)) dst')}
    {α : Type} {Q : α → sProp 𝕄} {k : PUnit → Prog (TpuEff nD τ sig (Elt F) Λ₀ .tc) α} :
    iprop(pA0 m c ∗ uX c (bk c 0) ∗ lz c 0)
      ⊢ iprop((fX m c -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src' (.here dst') (.dma sm) hsrc hdst hsem) k) Q) := by
  unfold pA0 uX fX pX
  iintro ⟨Ha, ⟨%f, Hu⟩, Hz⟩ Hk
  iapply (step_copy c 0 sm hsm hs hd (arg0 m c) f (XF m) (read_xB_own m c) (by decide)) $$ [$Ha $Hu $Hz]
  iexact Hk
theorem copied_x (sm : DmaSem sig) (hsm : sm = lS 0) {s' : Shape} {e' : EltTy} {sp' : Space} {src : Memref sig .tc sp' s' e'}
    {dst' : Memref sig .tc .vmem S256x1024 .f32} (hd : dst' = xB (bk c 0)) {hsrc : src.view.WordExact} {hdst : dst'.view.WordExact}
    (l : List (GSem nD τ sig × ℕ)) (b : ℕ) (hl : ∀ p ∈ l, p.1.1.2 = .tc ∧ b < lv p.1 ())
    {α : Type} {Q : α → sProp 𝕄} {k : PUnit → Prog (TpuEff nD τ sig (Elt F) Λ₀ .tc) α} :
    iprop(levAts L lv ∗ ow c l ∗ fX m c)
      ⊢ iprop((iprop(ow c l ∗ pX m c (bk c 0) ∗ pA0 m c ∗ lz c 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst' hsrc hdst) k) Q) := by
  unfold fX
  iintro ⟨#Hl, HO, Hf⟩ Hk
  iapply (step_copied c 0 sm hsm hd l b hl _ rfl _) $$ [$Hl $HO $Hf]
  iintro ⟨HO, ⟨Hp, Ha⟩, Hz⟩
  iapply Hk $$ [$HO $Hp $Ha $Hz]
theorem copy_g (sm : DmaSem sig) (hsm : sm = lS 1) {src' : Memref sig .tc .hbm S1024x4 .f32} {dst' : Memref sig .tc .vmem S1024x4 .f32}
    (hs : src' = a1M) (hd : dst' = gB (bk c 0)) {hsrc : src'.view.WordExact} {hdst : dst'.view.WordExact}
    {hsem : DmaTarget.Typed (nD := nD) (τ := τ) .hbm (.dma sm) (.here (p := (.tc : Proc τ)) dst')}
    {α : Type} {Q : α → sProp 𝕄} {k : PUnit → Prog (TpuEff nD τ sig (Elt F) Λ₀ .tc) α} :
    iprop(pA1 m c ∗ uG c (bk c 0) ∗ lz c 1)
      ⊢ iprop((fG m c -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src' (.here dst') (.dma sm) hsrc hdst hsem) k) Q) := by
  unfold pA1 uG fG pG
  iintro ⟨Ha, ⟨%f, Hu⟩, Hz⟩ Hk
  iapply (step_copy c 1 sm hsm hs hd (arg1 m c) f (GF m) (read_gB_own m c) (by decide)) $$ [$Ha $Hu $Hz]
  iexact Hk
theorem copied_g (sm : DmaSem sig) (hsm : sm = lS 1) {s' : Shape} {e' : EltTy} {sp' : Space} {src : Memref sig .tc sp' s' e'}
    {dst' : Memref sig .tc .vmem S1024x4 .f32} (hd : dst' = gB (bk c 0)) {hsrc : src.view.WordExact} {hdst : dst'.view.WordExact}
    (l : List (GSem nD τ sig × ℕ)) (b : ℕ) (hl : ∀ p ∈ l, p.1.1.2 = .tc ∧ b < lv p.1 ())
    {α : Type} {Q : α → sProp 𝕄} {k : PUnit → Prog (TpuEff nD τ sig (Elt F) Λ₀ .tc) α} :
    iprop(levAts L lv ∗ ow c l ∗ fG m c)
      ⊢ iprop((iprop(ow c l ∗ pG m c (bk c 0) ∗ pA1 m c ∗ lz c 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst' hsrc hdst) k) Q) := by
  unfold fG
  iintro ⟨#Hl, HO, Hf⟩ Hk
  iapply (step_copied c 1 sm hsm hd l b hl _ rfl _) $$ [$Hl $HO $Hf]
  iintro ⟨HO, ⟨Hp, Ha⟩, Hz⟩
  iapply Hk $$ [$HO $Hp $Ha $Hz]
theorem copy_w1 (s : Fin 2) (e : Fin 4) (sm : DmaSem sig) (hsm : sm = lS (jW1 s)) {src' : Memref sig .tc .hbm S1024x2048 .f32} {dst' : Memref sig .tc .vmem S1024x2048 .f32}
    (hs : src' = a2B e) (hd : dst' = w1B s) {hsrc : src'.view.WordExact} {hdst : dst'.view.WordExact}
    {hsem : DmaTarget.Typed (nD := nD) (τ := τ) .hbm (.dma sm) (.here (p := (.tc : Proc τ)) dst')}
    {α : Type} {Q : α → sProp 𝕄} {k : PUnit → Prog (TpuEff nD τ sig (Elt F) Λ₀ .tc) α} :
    iprop(pA2 m c e ∗ uW1 c s ∗ lz c (jW1 s))
      ⊢ iprop((fW1 m c s e -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src' (.here dst') (.dma sm) hsrc hdst hsem) k) Q) := by
  unfold pA2 uW1 fW1 pW1
  iintro ⟨Ha, ⟨%f, Hu⟩, Hz⟩ Hk
  iapply (step_copy c (jW1 s) sm hsm hs hd (arg2 m c) f (W1F m c e) (read_w1B m c s e) (by decide)) $$ [$Ha $Hu $Hz]
  iexact Hk
theorem copied_w1 (s : Fin 2) (e : Fin 4) (sm : DmaSem sig) (hsm : sm = lS (jW1 s)) {s' : Shape} {e' : EltTy} {sp' : Space} {src : Memref sig .tc sp' s' e'}
    {dst' : Memref sig .tc .vmem S1024x2048 .f32} (hd : dst' = w1B s) {hsrc : src.view.WordExact} {hdst : dst'.view.WordExact}
    (l : List (GSem nD τ sig × ℕ)) (b : ℕ) (hl : ∀ p ∈ l, p.1.1.2 = .tc ∧ b < lv p.1 ())
    {α : Type} {Q : α → sProp 𝕄} {k : PUnit → Prog (TpuEff nD τ sig (Elt F) Λ₀ .tc) α} :
    iprop(levAts L lv ∗ ow c l ∗ fW1 m c s e)
      ⊢ iprop((iprop(ow c l ∗ pW1 m c s e ∗ pA2 m c e ∗ lz c (jW1 s)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst' hsrc hdst) k) Q) := by
  unfold fW1
  iintro ⟨#Hl, HO, Hf⟩ Hk
  iapply (step_copied c (jW1 s) sm hsm hd l b hl _ rfl _) $$ [$Hl $HO $Hf]
  iintro ⟨HO, ⟨Hp, Ha⟩, Hz⟩
  iapply Hk $$ [$HO $Hp $Ha $Hz]
theorem copy_w2 (s : Fin 2) (e : Fin 4) (sm : DmaSem sig) (hsm : sm = lS (jW2 s)) {src' : Memref sig .tc .hbm S2048x1024 .f32} {dst' : Memref sig .tc .vmem S2048x1024 .f32}
    (hs : src' = a3B e) (hd : dst' = w2B s) {hsrc : src'.view.WordExact} {hdst : dst'.view.WordExact}
    {hsem : DmaTarget.Typed (nD := nD) (τ := τ) .hbm (.dma sm) (.here (p := (.tc : Proc τ)) dst')}
    {α : Type} {Q : α → sProp 𝕄} {k : PUnit → Prog (TpuEff nD τ sig (Elt F) Λ₀ .tc) α} :
    iprop(pA3 m c e ∗ uW2 c s ∗ lz c (jW2 s))
      ⊢ iprop((fW2 m c s e -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src' (.here dst') (.dma sm) hsrc hdst hsem) k) Q) := by
  unfold pA3 uW2 fW2 pW2
  iintro ⟨Ha, ⟨%f, Hu⟩, Hz⟩ Hk
  iapply (step_copy c (jW2 s) sm hsm hs hd (arg3 m c) f (W2F m c e) (read_w2B m c s e) (by decide)) $$ [$Ha $Hu $Hz]
  iexact Hk
theorem copied_w2 (s : Fin 2) (e : Fin 4) (sm : DmaSem sig) (hsm : sm = lS (jW2 s)) {s' : Shape} {e' : EltTy} {sp' : Space} {src : Memref sig .tc sp' s' e'}
    {dst' : Memref sig .tc .vmem S2048x1024 .f32} (hd : dst' = w2B s) {hsrc : src.view.WordExact} {hdst : dst'.view.WordExact}
    (l : List (GSem nD τ sig × ℕ)) (b : ℕ) (hl : ∀ p ∈ l, p.1.1.2 = .tc ∧ b < lv p.1 ())
    {α : Type} {Q : α → sProp 𝕄} {k : PUnit → Prog (TpuEff nD τ sig (Elt F) Λ₀ .tc) α} :
    iprop(levAts L lv ∗ ow c l ∗ fW2 m c s e)
      ⊢ iprop((iprop(ow c l ∗ pW2 m c s e ∗ pA3 m c e ∗ lz c (jW2 s)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst' hsrc hdst) k) Q) := by
  unfold fW2
  iintro ⟨#Hl, HO, Hf⟩ Hk
  iapply (step_copied c (jW2 s) sm hsm hd l b hl _ rfl _) $$ [$Hl $HO $Hf]
  iintro ⟨HO, ⟨Hp, Ha⟩, Hz⟩
  iapply Hk $$ [$HO $Hp $Ha $Hz]
/-- A transfer of the ring, its cells `kS` and `kR` those whose rounds hand over these pieces. -/
theorem send_x (b : Fin 4) (n : Dev nD) (hn : n = nxt c) (kS kR : Fin 18) (sS sR : DmaSem sig) (hS : sS = dS kS) (hR : sR = dS kR)
    (h₁ : payK m c kS = pX m c b) (h₂ : payK m (nxt c) kR = pX m (nxt c) b) (hN : NX = amtN (kS.val + 1)) (hNR : amtN (kR.val + 1) = amtN (kS.val + 1))
    {src' dst' : Memref sig .tc .vmem S256x1024 .f32} (hs : src' = xB b) (hd : dst' = xB b)
    {hsc : (dst' : Memref sig (Dev.tc n : Thread nD τ).2.kind .vmem S256x1024 .f32).view.ref.isScScratch = false}
    {hsrc : src'.view.WordExact} {hdst : dst'.view.WordExact}
    {hsem : DmaTarget.Typed .vmem (.dma sR) (.remote (Dev.tc n : Thread nD τ) (dst' : Memref sig (Dev.tc n : Thread nD τ).2.kind .vmem S256x1024 .f32) (.dma sS) hsc)}
    (l : List (GSem nD τ sig × ℕ))
    {α : Type} {Q : α → sProp 𝕄} {k : PUnit → Prog (TpuEff nD τ sig (Elt F) Λ₀ .tc) α} :
    iprop(recs m K ∗ ow c (owR c kR :: l) ∗ pX m c b ∗ uX (nxt c) b ∗ dutyTok ER (dcell c kS) 0 false ∗ dutyTok ER (dcell (nxt c) kR) 0 false)
      ⊢ iprop((iprop(ow c l ∗ cred (tallyAt (dcell c kS) () (amtN (kS.val + 1)))) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src' (.remote (Dev.tc n : Thread nD τ) dst' (.dma sS) hsc) (.dma sR) hsrc hdst hsem) k) Q) := by
  have h₁' := Entails.of_eq h₁.symm
  have h₂' := Entails.of_eq h₂.symm
  unfold pX at h₁'
  unfold pX at h₂'
  unfold uX pX
  iintro ⟨#Hr, HO, Hs, ⟨%f, Hu⟩, Ht1, Ht2⟩ Hk
  iapply (step_send m K c n hn kS kR sS sR hS hR hs hd hN hNR (XF m) f (XF m) (rfl) l h₁' h₂') $$ [$Hr $HO $Hs $Hu $Ht1 $Ht2]
  iexact Hk
/-- A transfer of the ring, its cells `kS` and `kR` those whose rounds hand over these pieces. -/
theorem send_g (b : Fin 4) (n : Dev nD) (hn : n = nxt c) (kS kR : Fin 18) (sS sR : DmaSem sig) (hS : sS = dS kS) (hR : sR = dS kR)
    (h₁ : payK m c kS = pG m c b) (h₂ : payK m (nxt c) kR = pG m (nxt c) b) (hN : NG = amtN (kS.val + 1)) (hNR : amtN (kR.val + 1) = amtN (kS.val + 1))
    {src' dst' : Memref sig .tc .vmem S1024x4 .f32} (hs : src' = gB b) (hd : dst' = gB b)
    {hsc : (dst' : Memref sig (Dev.tc n : Thread nD τ).2.kind .vmem S1024x4 .f32).view.ref.isScScratch = false}
    {hsrc : src'.view.WordExact} {hdst : dst'.view.WordExact}
    {hsem : DmaTarget.Typed .vmem (.dma sR) (.remote (Dev.tc n : Thread nD τ) (dst' : Memref sig (Dev.tc n : Thread nD τ).2.kind .vmem S1024x4 .f32) (.dma sS) hsc)}
    (l : List (GSem nD τ sig × ℕ))
    {α : Type} {Q : α → sProp 𝕄} {k : PUnit → Prog (TpuEff nD τ sig (Elt F) Λ₀ .tc) α} :
    iprop(recs m K ∗ ow c (owR c kR :: l) ∗ pG m c b ∗ uG (nxt c) b ∗ dutyTok ER (dcell c kS) 0 false ∗ dutyTok ER (dcell (nxt c) kR) 0 false)
      ⊢ iprop((iprop(ow c l ∗ cred (tallyAt (dcell c kS) () (amtN (kS.val + 1)))) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src' (.remote (Dev.tc n : Thread nD τ) dst' (.dma sS) hsc) (.dma sR) hsrc hdst hsem) k) Q) := by
  have h₁' := Entails.of_eq h₁.symm
  have h₂' := Entails.of_eq h₂.symm
  unfold pG at h₁'
  unfold pG at h₂'
  unfold uG pG
  iintro ⟨#Hr, HO, Hs, ⟨%f, Hu⟩, Ht1, Ht2⟩ Hk
  iapply (step_send m K c n hn kS kR sS sR hS hR hs hd hN hNR (GF m) f (GF m) (rfl) l h₁' h₂') $$ [$Hr $HO $Hs $Hu $Ht1 $Ht2]
  iexact Hk
/-- A transfer of the ring, its cells `kS` and `kR` those whose rounds hand over these pieces. -/
theorem send_r (s : Fin 3) (n : Dev nD) (hn : n = nxt c) (kS kR : Fin 18) (sS sR : DmaSem sig) (hS : sS = dS kS) (hR : sR = dS kR)
    (h₁ : payK m c kS = pS c (DS m s c)) (h₂ : payK m (nxt c) kR = pR m (nxt c) s) (hN : NX = amtN (kS.val + 1)) (hNR : amtN (kR.val + 1) = amtN (kS.val + 1))
    {src' dst' : Memref sig .tc .vmem S256x1024 .f32} (hs : src' = sM) (hd : dst' = rB s)
    {hsc : (dst' : Memref sig (Dev.tc n : Thread nD τ).2.kind .vmem S256x1024 .f32).view.ref.isScScratch = false}
    {hsrc : src'.view.WordExact} {hdst : dst'.view.WordExact}
    {hsem : DmaTarget.Typed .vmem (.dma sR) (.remote (Dev.tc n : Thread nD τ) (dst' : Memref sig (Dev.tc n : Thread nD τ).2.kind .vmem S256x1024 .f32) (.dma sS) hsc)}
    (l : List (GSem nD τ sig × ℕ))
    {α : Type} {Q : α → sProp 𝕄} {k : PUnit → Prog (TpuEff nD τ sig (Elt F) Λ₀ .tc) α} :
    iprop(recs m K ∗ ow c (owR c kR :: l) ∗ pS c (DS m s c) ∗ uR (nxt c) s ∗ dutyTok ER (dcell c kS) 0 false ∗ dutyTok ER (dcell (nxt c) kR) 0 false)
      ⊢ iprop((iprop(ow c l ∗ cred (tallyAt (dcell c kS) () (amtN (kS.val + 1)))) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src' (.remote (Dev.tc n : Thread nD τ) dst' (.dma sS) hsc) (.dma sR) hsrc hdst hsem) k) Q) := by
  have h₁' := Entails.of_eq h₁.symm
  have h₂' := Entails.of_eq h₂.symm
  unfold pS at h₁'
  unfold pR at h₂'
  unfold uR pS
  iintro ⟨#Hr, HO, Hs, ⟨%f, Hu⟩, Ht1, Ht2⟩ Hk
  iapply (step_send m K c n hn kS kR sS sR hS hR hs hd hN hNR (DS m s c) f (RF m (nxt c)) (read_rB m c s) l h₁' h₂') $$ [$Hr $HO $Hs $Hu $Ht1 $Ht2]
  iexact Hk

theorem amt_x {k : ℕ} (h : ¬ (7 ≤ k ∧ k ≤ 12)) : NX = amtN k := (if_neg h).symm
theorem amt_g {k : ℕ} (h : 7 ≤ k ∧ k ≤ 12) : NG = amtN k := (if_pos h).symm
theorem cred_x (b : Fin 4) : (xB b).view.dmaCredit = NX := rfl
theorem cred_g (b : Fin 4) : (gB b).view.dmaCredit = NG := rfl
theorem cred_r (b : Fin 3) : (rB b).view.dmaCredit = NX := rfl
theorem cred_s : sM.view.dmaCredit = NX := rfl

/-- A wait on a transfer cell, its payload by name. -/
theorem got (kk : Fin 18) (P : sProp 𝕄) (hP : payK m c kk = P) (sm : DmaSem sig) (hsm : sm = dS kk) (b : ℕ) (hb : lvN (kk.val + 1) ≤ b)
    {s s' : Shape} {e e' : EltTy} {sp sp' : Space} {src : Memref sig .tc sp' s' e'} {dst' dst : Memref sig .tc sp s e} (hd : dst' = dst) {hsrc : src.view.WordExact} {hdst : dst'.view.WordExact}
    (hN : dst.view.dmaCredit = amtN (kk.val + 1)) (l : List (GSem nD τ sig × ℕ)) (hl : ∀ p ∈ l, p.1.1.2 = .tc ∧ b < lv p.1 ())
    {α : Type} {Q : α → sProp 𝕄} {k : PUnit → Prog (TpuEff nD τ sig (Elt F) Λ₀ .tc) α} :
    iprop(recs m K ∗ levAts L lv ∗ ow c l ∗ cred (tallyAt (dcell c kk) () (amtN (kk.val + 1))) ∗ atPos ER (dcell c kk) 0 ∅ 0)
      ⊢ iprop((iprop(ow c l ∗ P ∗ semVal (dcell c kk) 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst' hsrc hdst) k) Q) := by
  subst hP
  exact step_wait m K c kk sm hsm b hb hd hN l hl

/-- The next device's landing places, by what this device sends there. -/
theorem landing_nxt : landing (F := F) (nxt c)
    ⊢ iprop(uX (nxt c) (bk c 0) ∗ uX (nxt c) (bk c 1) ∗ uX (nxt c) (bk c 2) ∗ uG (nxt c) (bk c 0) ∗ uG (nxt c) (bk c 1) ∗ uG (nxt c) (bk c 2)
        ∗ uR (nxt c) 0 ∗ uR (nxt c) 1 ∗ uR (nxt c) 2) := by
  unfold landing
  rw [bk_nxt c 0, bk_nxt c 1, bk_nxt c 2]
  iintro ⟨⟨H1, H2, H3⟩, ⟨H4, H5, H6⟩, H7, H8, H9⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Own

end Cert.Moe

end
-- ==== Proof.BodyA.lean ====
/-
# The body, part by part: the handshake and the gathering ring
-/
module

public import proofs.«01_k».proof.Proof.Steps

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Fin 18) → ℕ) (c : Dev nD)

/-- The two operands' copies into the device's own places start. -/
theorem part1_spec  {Kt : (Σ' (d0 : Dev nD) (v2 : BitVec 32) (v13 : BitVec 32), BitVec 32) → sProp 𝕄} :
    iprop(recs m K ∗ levAts L lv ∗ pA0 m c ∗ uX c (bk c 0) ∗ lz c 0 ∗ pA1 m c ∗ uG c (bk c 0) ∗ lz c 1)
      ⊢ iprop((iprop(fX m c ∗ fG m c) -∗ ∀ v13 v24, Kt ⟨c, v2w c, v13, v24⟩) -∗ wp frame (wpE (defs₀ (F := F)) 𝒱₀ (c : Thread nD τ) none) Set.univ
          (k0_part1 (F := F) a0M (Memref.isWhole_whole _) a1M (Memref.isWhole_whole _) a2M (Memref.isWhole_whole _) a3M (Memref.isWhole_whole _) oM (Memref.isWhole_whole _) xM (Memref.isWhole_whole _) gM (Memref.isWhole_whole _) w1M (Memref.isWhole_whole _) w2M (Memref.isWhole_whole _) accM (Memref.isWhole_whole _) sM (Memref.isWhole_whole _) rM (Memref.isWhole_whole _) cc0_scratch7 cc0_scratch8 cc0_scratch9 cc0_scratch10 cc0_scratch11 cc0_scratch12 cc0_scratch13 cc0_scratch14 cc0_scratch15 cc0_scratch16 ) Kt) := by
  rw [k0_part1_eq_skeleton]
  unfold k0_part1_skel
  simp only [semSignalWord, semWaitWord, Prog.lift, Prog.bind_op, Prog.bind_ret, Prog.pure_eq_ret, wp_deviceId]
  unfold v2w
  iintro ⟨#Hr, #Hl, Ha0, HUX, Hz0, Ha1, HUG, Hz1⟩ Hk
  iapply (copy_x m c _ rfl rfl (xSl (off1_eq c))) $$ [$Ha0 $HUX $Hz0]
  iintro HFX
  iapply (copy_g m c _ rfl rfl (gSl (off2_eq c))) $$ [$Ha1 $HUG $Hz1]
  iintro HFG
  rw [wp_ret]
  imodintro
  ihave Hk := Hk $$ [$HFX $HFG]
  iapply Hk

/-- The first weights' copies, the handshake with both neighbours, and the own operands' arrival. -/
theorem part2_spec (v2 v13 v24 : BitVec 32) {Kt : (Σ' (v51 : BitVec 32) (v52 : BitVec 32), BitVec 1) → sProp 𝕄} :
    iprop(recs m K ∗ levAts L lv ∗ ow c (oAll c) ∗ pA2 m c 0 ∗ uW1 c 0 ∗ lz c 2 ∗ pA3 m c 0 ∗ uW2 c 0 ∗ lz c 4 ∗ dutyTok ER (barCell (prv c)) 0 true ∗ (ringRd m).payload (barCell (prv c)) 0 true ∗ dutyTok ER (barCell (nxt c)) 0 false ∗ (ringRd m).payload (barCell (nxt c)) 0 false ∗ cred (tallyAt (barCell c) () 2) ∗ atPos ER (barCell c) 0 ∅ 0 ∗ fX m c ∗ fG m c)
      ⊢ iprop((iprop(ow c (oH0 c) ∗ fW1 m c 0 0 ∗ fW2 m c 0 0 ∗ semVal (barCell c) 0 ∗ uX (nxt c) (bk c 0) ∗ uX (nxt c) (bk c 1) ∗ uX (nxt c) (bk c 2) ∗ uG (nxt c) (bk c 0) ∗ uG (nxt c) (bk c 1) ∗ uG (nxt c) (bk c 2) ∗ uR (nxt c) 0 ∗ uR (nxt c) 1 ∗ uR (nxt c) 2 ∗ pX m c (bk c 0) ∗ pA0 m c ∗ lz c 0 ∗ pG m c (bk c 0) ∗ pA1 m c ∗ lz c 1) -∗ ∀ v, Kt v) -∗ wp frame (wpE (defs₀ (F := F)) 𝒱₀ (c : Thread nD τ) none) Set.univ
          (k0_part2 (F := F) a0M (Memref.isWhole_whole _) a1M (Memref.isWhole_whole _) a2M (Memref.isWhole_whole _) a3M (Memref.isWhole_whole _) oM (Memref.isWhole_whole _) xM (Memref.isWhole_whole _) gM (Memref.isWhole_whole _) w1M (Memref.isWhole_whole _) w2M (Memref.isWhole_whole _) accM (Memref.isWhole_whole _) sM (Memref.isWhole_whole _) rM (Memref.isWhole_whole _) cc0_scratch7 cc0_scratch8 cc0_scratch9 cc0_scratch10 cc0_scratch11 cc0_scratch12 cc0_scratch13 cc0_scratch14 cc0_scratch15 cc0_scratch16 c v2 v13 v24) Kt) := by
  rw [k0_part2_eq_skeleton]
  unfold k0_part2_skel
  simp only [semSignalWord, semWaitWord, Prog.lift, Prog.bind_op, Prog.bind_ret, Prog.pure_eq_ret, wp_deviceId]
  iintro ⟨#Hr, #Hl, HO, Ha2_0, HuW1_0, Hz2, Ha3_0, HuW2_0, Hz4, HTb1, HPb1, HTb2, HPb2, HCb, HAb, HFX, HFG⟩ Hk
  iapply (copy_w1 m c 0 0 _ rfl rfl rfl) $$ [$Ha2_0 $HuW1_0 $Hz2]
  iintro HfW1_0_0
  iapply (copy_w2 m c 0 0 _ rfl rfl rfl) $$ [$Ha3_0 $HuW2_0 $Hz4]
  iintro HfW2_0_0
  ihave HO := (Entails.of_eq (show (ow c (oAll c) : sProp 𝕄) = ow c ((barCell (prv c), 1) :: (barCell (nxt c), 1) :: oH0 c) from rfl)) $$ HO
  iapply (step_signal m K c _ _ (dev1_eq c) true ((barCell (nxt c), 1) :: oH0 c) _ rfl) $$ [$Hr $HO $HTb1 $HPb1]
  iintro HO
  iapply (step_signal m K c _ _ (dev2_eq c) false (oH0 c) _ rfl) $$ [$Hr $HO $HTb2 $HPb2]
  iintro HO
  iapply (step_barrier m K c _ _ rfl (lvl_H0 c)) $$ [$Hr $Hl $HO $HCb $HAb]
  iintro ⟨HO, Hland, HZb⟩
  ihave Hland := (landing_nxt c) $$ Hland
  icases Hland with ⟨HnX0, HnX1, HnX2, HnG0, HnG1, HnG2, HnR0, HnR1, HnR2⟩
  iapply (copied_x m c _ rfl (xSl (off1_eq c)) _ 1 (lvl_H0 c)) $$ [$Hl $HO $HFX]
  iintro ⟨HO, HX0, Ha0, Hz0⟩
  iapply (copied_g m c _ rfl (gSl (off2_eq c)) _ 1 (lvl_H0 c)) $$ [$Hl $HO $HFG]
  iintro ⟨HO, HG0, Ha1, Hz1⟩
  rw [wp_ret]
  imodintro
  ihave Hk := Hk $$ [$HO $HfW1_0_0 $HfW2_0_0 $HZb $HnX0 $HnX1 $HnX2 $HnG0 $HnG1 $HnG2 $HnR0 $HnR1 $HnR2 $HX0 $Ha0 $Hz0 $HG0 $Ha1 $Hz1]
  iexact Hk

/-- Hop 0 of the ring: both transfers, and the first one's departure. -/
theorem part3_spec (v24 v51 v52 : BitVec 32) (v57 : BitVec 1) {Kt : PUnit → sProp 𝕄} :
    iprop(recs m K ∗ levAts L lv ∗ ow c (oH0 c) ∗ pX m c (bk c 0) ∗ uX (nxt c) (bk c 0) ∗ dutyTok ER (dcell c 0) 0 false ∗ dutyTok ER (dcell (nxt c) 3) 0 false ∗ pG m c (bk c 0) ∗ uG (nxt c) (bk c 0) ∗ dutyTok ER (dcell c 6) 0 false ∗ dutyTok ER (dcell (nxt c) 9) 0 false ∗ atPos ER (dcell c 0) 0 ∅ 0)
      ⊢ iprop((iprop(ow c (oH1 c) ∗ cred (tallyAt (dcell c 6) () (amtN ((6 : Fin 18).val + 1))) ∗ pX m c (bk c 0) ∗ semVal (dcell c 0) 0) -∗ Kt ⟨⟩) -∗ wp frame (wpE (defs₀ (F := F)) 𝒱₀ (c : Thread nD τ) none) Set.univ
          (k0_part3 (F := F) a0M (Memref.isWhole_whole _) a1M (Memref.isWhole_whole _) a2M (Memref.isWhole_whole _) a3M (Memref.isWhole_whole _) oM (Memref.isWhole_whole _) xM (Memref.isWhole_whole _) gM (Memref.isWhole_whole _) w1M (Memref.isWhole_whole _) w2M (Memref.isWhole_whole _) accM (Memref.isWhole_whole _) sM (Memref.isWhole_whole _) rM (Memref.isWhole_whole _) cc0_scratch7 cc0_scratch8 cc0_scratch9 cc0_scratch10 cc0_scratch11 cc0_scratch12 cc0_scratch13 cc0_scratch14 cc0_scratch15 cc0_scratch16 c v24 v51 v52 v57) Kt) := by
  rw [k0_part3_eq_skeleton]
  unfold k0_part3_skel
  simp only [semSignalWord, semWaitWord, Prog.lift, Prog.bind_op, Prog.bind_ret, Prog.pure_eq_ret, wp_deviceId]
  iintro ⟨#Hr, #Hl, HO, HX0, HnX0, HTd0, HTr3, HG0, HnG0, HTd6, HTr9, HA0⟩ Hk
  ihave HO := (Entails.of_eq (show (ow c (oH0 c) : sProp 𝕄) = ow c (owR c 3 :: owR c 9 :: oH1 c) from rfl)) $$ HO
  iapply (send_x m K c (bk c 0) _ (dev3_eq c) 0 3 _ _ rfl rfl rfl (congrArg (pX m (nxt c)) (bk_nxt c 0)) (amt_x (by decide)) ((amt_x (by decide)).symm.trans (amt_x (by decide))) (xSl (off3_eq c 0)) (xSl (off3_eq c 0)) (owR c 9 :: oH1 c)) $$ [$Hr $HO $HX0 $HnX0 $HTd0 $HTr3]
  iintro ⟨HO, HC0⟩
  iapply (send_g m K c (bk c 0) _ (dev4_eq c) 6 9 _ _ rfl rfl rfl (congrArg (pG m (nxt c)) (bk_nxt c 0)) (amt_g (by decide)) ((amt_g (by decide)).symm.trans (amt_g (by decide))) (gSl (off4_eq c 0)) (gSl (off4_eq c 0)) (oH1 c)) $$ [$Hr $HO $HG0 $HnG0 $HTd6 $HTr9]
  iintro ⟨HO, HC6⟩
  iapply (got m K c 0 (pX m c (bk c 0)) rfl _ rfl 2 (by decide) (xSl (off3_eq c 0)) ((cred_x _).trans (amt_x (by decide))) _ (lvl_H1 c)) $$ [$Hr $Hl $HO $HC0 $HA0]
  iintro ⟨HO, HX0, HZ0⟩
  rw [wp_ret]
  imodintro
  ihave Hk := Hk $$ [$HO $HC6 $HX0 $HZ0]
  iexact Hk

/-- Hop 0 completes. -/
theorem part4_spec (v2 v24 : BitVec 32) {Kt : BitVec 32 → sProp 𝕄} :
    iprop(recs m K ∗ levAts L lv ∗ ow c (oH1 c) ∗ cred (tallyAt (dcell c 3) () (amtN ((3 : Fin 18).val + 1))) ∗ atPos ER (dcell c 3) 0 ∅ 0 ∗ cred (tallyAt (dcell c 6) () (amtN ((6 : Fin 18).val + 1))) ∗ atPos ER (dcell c 6) 0 ∅ 0 ∗ cred (tallyAt (dcell c 9) () (amtN ((9 : Fin 18).val + 1))) ∗ atPos ER (dcell c 9) 0 ∅ 0)
      ⊢ iprop((iprop(ow c (oH1 c) ∗ pX m c (bk c 1) ∗ semVal (dcell c 3) 0 ∗ pG m c (bk c 0) ∗ semVal (dcell c 6) 0 ∗ pG m c (bk c 1) ∗ semVal (dcell c 9) 0) -∗ ∀ v, Kt v) -∗ wp frame (wpE (defs₀ (F := F)) 𝒱₀ (c : Thread nD τ) none) Set.univ
          (k0_part4 (F := F) a0M (Memref.isWhole_whole _) a1M (Memref.isWhole_whole _) a2M (Memref.isWhole_whole _) a3M (Memref.isWhole_whole _) oM (Memref.isWhole_whole _) xM (Memref.isWhole_whole _) gM (Memref.isWhole_whole _) w1M (Memref.isWhole_whole _) w2M (Memref.isWhole_whole _) accM (Memref.isWhole_whole _) sM (Memref.isWhole_whole _) rM (Memref.isWhole_whole _) cc0_scratch7 cc0_scratch8 cc0_scratch9 cc0_scratch10 cc0_scratch11 cc0_scratch12 cc0_scratch13 cc0_scratch14 cc0_scratch15 cc0_scratch16 c v2 v24) Kt) := by
  rw [k0_part4_eq_skeleton]
  unfold k0_part4_skel
  simp only [semSignalWord, semWaitWord, Prog.lift, Prog.bind_op, Prog.bind_ret, Prog.pure_eq_ret, wp_deviceId]
  iintro ⟨#Hr, #Hl, HO, HC3, HA3, HC6, HA6, HC9, HA9⟩ Hk
  iapply (got m K c 3 (pX m c (bk c 1)) rfl _ rfl 2 (by decide) (xSl (off3_eq c 0)) ((cred_x _).trans (amt_x (by decide))) _ (lvl_H1 c)) $$ [$Hr $Hl $HO $HC3 $HA3]
  iintro ⟨HO, HX1, HZ3⟩
  iapply (got m K c 6 (pG m c (bk c 0)) rfl _ rfl 2 (by decide) (gSl (off4_eq c 0)) ((cred_g _).trans (amt_g (by decide))) _ (lvl_H1 c)) $$ [$Hr $Hl $HO $HC6 $HA6]
  iintro ⟨HO, HG0, HZ6⟩
  iapply (got m K c 9 (pG m c (bk c 1)) rfl _ rfl 2 (by decide) (gSl (off4_eq c 0)) ((cred_g _).trans (amt_g (by decide))) _ (lvl_H1 c)) $$ [$Hr $Hl $HO $HC9 $HA9]
  iintro ⟨HO, HG1, HZ9⟩
  rw [wp_ret]
  imodintro
  ihave Hk := Hk $$ [$HO $HX1 $HZ3 $HG0 $HZ6 $HG1 $HZ9]
  iexact Hk

/-- Hop 1: both transfers, and the rows' departure and arrival. -/
theorem part5_spec (v24 v117 : BitVec 32) {Kt : PUnit → sProp 𝕄} :
    iprop(recs m K ∗ levAts L lv ∗ ow c (oH1 c) ∗ pX m c (bk c 1) ∗ uX (nxt c) (bk c 1) ∗ dutyTok ER (dcell c 1) 0 false ∗ dutyTok ER (dcell (nxt c) 4) 0 false ∗ pG m c (bk c 1) ∗ uG (nxt c) (bk c 1) ∗ dutyTok ER (dcell c 7) 0 false ∗ dutyTok ER (dcell (nxt c) 10) 0 false ∗ atPos ER (dcell c 1) 0 ∅ 0 ∗ cred (tallyAt (dcell c 4) () (amtN ((4 : Fin 18).val + 1))) ∗ atPos ER (dcell c 4) 0 ∅ 0)
      ⊢ iprop((iprop(ow c (oH2 c) ∗ cred (tallyAt (dcell c 7) () (amtN ((7 : Fin 18).val + 1))) ∗ pX m c (bk c 1) ∗ semVal (dcell c 1) 0 ∗ pX m c (bk c 2) ∗ semVal (dcell c 4) 0) -∗ Kt ⟨⟩) -∗ wp frame (wpE (defs₀ (F := F)) 𝒱₀ (c : Thread nD τ) none) Set.univ
          (k0_part5 (F := F) a0M (Memref.isWhole_whole _) a1M (Memref.isWhole_whole _) a2M (Memref.isWhole_whole _) a3M (Memref.isWhole_whole _) oM (Memref.isWhole_whole _) xM (Memref.isWhole_whole _) gM (Memref.isWhole_whole _) w1M (Memref.isWhole_whole _) w2M (Memref.isWhole_whole _) accM (Memref.isWhole_whole _) sM (Memref.isWhole_whole _) rM (Memref.isWhole_whole _) cc0_scratch7 cc0_scratch8 cc0_scratch9 cc0_scratch10 cc0_scratch11 cc0_scratch12 cc0_scratch13 cc0_scratch14 cc0_scratch15 cc0_scratch16 c v24 v117) Kt) := by
  rw [k0_part5_eq_skeleton]
  unfold k0_part5_skel
  simp only [semSignalWord, semWaitWord, Prog.lift, Prog.bind_op, Prog.bind_ret, Prog.pure_eq_ret, wp_deviceId]
  iintro ⟨#Hr, #Hl, HO, HX1, HnX1, HTd1, HTr4, HG1, HnG1, HTd7, HTr10, HA1, HC4, HA4⟩ Hk
  ihave HO := (Entails.of_eq (show (ow c (oH1 c) : sProp 𝕄) = ow c (owR c 4 :: owR c 10 :: oH2 c) from rfl)) $$ HO
  iapply (send_x m K c (bk c 1) _ (dev5_eq c) 1 4 _ _ rfl rfl rfl (congrArg (pX m (nxt c)) (bk_nxt c 1)) (amt_x (by decide)) ((amt_x (by decide)).symm.trans (amt_x (by decide))) (xSl (off3_eq c 1)) (xSl (off3_eq c 1)) (owR c 10 :: oH2 c)) $$ [$Hr $HO $HX1 $HnX1 $HTd1 $HTr4]
  iintro ⟨HO, HC1⟩
  iapply (send_g m K c (bk c 1) _ (dev6_eq c) 7 10 _ _ rfl rfl rfl (congrArg (pG m (nxt c)) (bk_nxt c 1)) (amt_g (by decide)) ((amt_g (by decide)).symm.trans (amt_g (by decide))) (gSl (off4_eq c 1)) (gSl (off4_eq c 1)) (oH2 c)) $$ [$Hr $HO $HG1 $HnG1 $HTd7 $HTr10]
  iintro ⟨HO, HC7⟩
  iapply (got m K c 1 (pX m c (bk c 1)) rfl _ rfl 3 (by decide) (xSl (off3_eq c 1)) ((cred_x _).trans (amt_x (by decide))) _ (lvl_H2 c)) $$ [$Hr $Hl $HO $HC1 $HA1]
  iintro ⟨HO, HX1, HZ1⟩
  iapply (got m K c 4 (pX m c (bk c 2)) rfl _ rfl 3 (by decide) (xSl (off3_eq c 1)) ((cred_x _).trans (amt_x (by decide))) _ (lvl_H2 c)) $$ [$Hr $Hl $HO $HC4 $HA4]
  iintro ⟨HO, HX2, HZ4⟩
  rw [wp_ret]
  imodintro
  ihave Hk := Hk $$ [$HO $HC7 $HX1 $HZ1 $HX2 $HZ4]
  iexact Hk

/-- Hop 1 completes. -/
theorem part6_spec (v2 v24 : BitVec 32) {Kt : PUnit → sProp 𝕄} :
    iprop(recs m K ∗ levAts L lv ∗ ow c (oH2 c) ∗ cred (tallyAt (dcell c 7) () (amtN ((7 : Fin 18).val + 1))) ∗ atPos ER (dcell c 7) 0 ∅ 0 ∗ cred (tallyAt (dcell c 10) () (amtN ((10 : Fin 18).val + 1))) ∗ atPos ER (dcell c 10) 0 ∅ 0)
      ⊢ iprop((iprop(ow c (oH2 c) ∗ pG m c (bk c 1) ∗ semVal (dcell c 7) 0 ∗ pG m c (bk c 2) ∗ semVal (dcell c 10) 0) -∗ Kt ⟨⟩) -∗ wp frame (wpE (defs₀ (F := F)) 𝒱₀ (c : Thread nD τ) none) Set.univ
          (k0_part6 (F := F) a0M (Memref.isWhole_whole _) a1M (Memref.isWhole_whole _) a2M (Memref.isWhole_whole _) a3M (Memref.isWhole_whole _) oM (Memref.isWhole_whole _) xM (Memref.isWhole_whole _) gM (Memref.isWhole_whole _) w1M (Memref.isWhole_whole _) w2M (Memref.isWhole_whole _) accM (Memref.isWhole_whole _) sM (Memref.isWhole_whole _) rM (Memref.isWhole_whole _) cc0_scratch7 cc0_scratch8 cc0_scratch9 cc0_scratch10 cc0_scratch11 cc0_scratch12 cc0_scratch13 cc0_scratch14 cc0_scratch15 cc0_scratch16 c v2 v24) Kt) := by
  rw [k0_part6_eq_skeleton]
  unfold k0_part6_skel
  simp only [semSignalWord, semWaitWord, Prog.lift, Prog.bind_op, Prog.bind_ret, Prog.pure_eq_ret, wp_deviceId]
  iintro ⟨#Hr, #Hl, HO, HC7, HA7, HC10, HA10⟩ Hk
  iapply (got m K c 7 (pG m c (bk c 1)) rfl _ rfl 3 (by decide) (gSl (off4_eq c 1)) ((cred_g _).trans (amt_g (by decide))) _ (lvl_H2 c)) $$ [$Hr $Hl $HO $HC7 $HA7]
  iintro ⟨HO, HG1, HZ7⟩
  iapply (got m K c 10 (pG m c (bk c 2)) rfl _ rfl 3 (by decide) (gSl (off4_eq c 1)) ((cred_g _).trans (amt_g (by decide))) _ (lvl_H2 c)) $$ [$Hr $Hl $HO $HC10 $HA10]
  iintro ⟨HO, HG2, HZ10⟩
  rw [wp_ret]
  imodintro
  ihave Hk := Hk $$ [$HO $HG1 $HZ7 $HG2 $HZ10]
  iexact Hk

/-- Hop 2: both transfers, and all but the router slice's arrival. -/
theorem part7_spec (v24 : BitVec 32) {Kt : BitVec 32 → sProp 𝕄} :
    iprop(recs m K ∗ levAts L lv ∗ ow c (oH2 c) ∗ pX m c (bk c 2) ∗ uX (nxt c) (bk c 2) ∗ dutyTok ER (dcell c 2) 0 false ∗ dutyTok ER (dcell (nxt c) 5) 0 false ∗ pG m c (bk c 2) ∗ uG (nxt c) (bk c 2) ∗ dutyTok ER (dcell c 8) 0 false ∗ dutyTok ER (dcell (nxt c) 11) 0 false ∗ atPos ER (dcell c 2) 0 ∅ 0 ∗ cred (tallyAt (dcell c 5) () (amtN ((5 : Fin 18).val + 1))) ∗ atPos ER (dcell c 5) 0 ∅ 0 ∗ atPos ER (dcell c 8) 0 ∅ 0)
      ⊢ iprop((iprop(ow c (oRS c) ∗ pX m c (bk c 2) ∗ semVal (dcell c 2) 0 ∗ pX m c (bk c 3) ∗ semVal (dcell c 5) 0 ∗ pG m c (bk c 2) ∗ semVal (dcell c 8) 0) -∗ ∀ v, Kt v) -∗ wp frame (wpE (defs₀ (F := F)) 𝒱₀ (c : Thread nD τ) none) Set.univ
          (k0_part7 (F := F) a0M (Memref.isWhole_whole _) a1M (Memref.isWhole_whole _) a2M (Memref.isWhole_whole _) a3M (Memref.isWhole_whole _) oM (Memref.isWhole_whole _) xM (Memref.isWhole_whole _) gM (Memref.isWhole_whole _) w1M (Memref.isWhole_whole _) w2M (Memref.isWhole_whole _) accM (Memref.isWhole_whole _) sM (Memref.isWhole_whole _) rM (Memref.isWhole_whole _) cc0_scratch7 cc0_scratch8 cc0_scratch9 cc0_scratch10 cc0_scratch11 cc0_scratch12 cc0_scratch13 cc0_scratch14 cc0_scratch15 cc0_scratch16 c v24) Kt) := by
  rw [k0_part7_eq_skeleton]
  unfold k0_part7_skel
  simp only [semSignalWord, semWaitWord, Prog.lift, Prog.bind_op, Prog.bind_ret, Prog.pure_eq_ret, wp_deviceId]
  iintro ⟨#Hr, #Hl, HO, HX2, HnX2, HTd2, HTr5, HG2, HnG2, HTd8, HTr11, HA2, HC5, HA5, HA8⟩ Hk
  ihave HO := (Entails.of_eq (show (ow c (oH2 c) : sProp 𝕄) = ow c (owR c 5 :: owR c 11 :: oRS c) from rfl)) $$ HO
  iapply (send_x m K c (bk c 2) _ (dev7_eq c) 2 5 _ _ rfl rfl rfl (congrArg (pX m (nxt c)) (bk_nxt c 2)) (amt_x (by decide)) ((amt_x (by decide)).symm.trans (amt_x (by decide))) (xSl (off3_eq c 2)) (xSl (off3_eq c 2)) (owR c 11 :: oRS c)) $$ [$Hr $HO $HX2 $HnX2 $HTd2 $HTr5]
  iintro ⟨HO, HC2⟩
  iapply (send_g m K c (bk c 2) _ (dev8_eq c) 8 11 _ _ rfl rfl rfl (congrArg (pG m (nxt c)) (bk_nxt c 2)) (amt_g (by decide)) ((amt_g (by decide)).symm.trans (amt_g (by decide))) (gSl (off4_eq c 2)) (gSl (off4_eq c 2)) (oRS c)) $$ [$Hr $HO $HG2 $HnG2 $HTd8 $HTr11]
  iintro ⟨HO, HC8⟩
  iapply (got m K c 2 (pX m c (bk c 2)) rfl _ rfl 4 (by decide) (xSl (off3_eq c 2)) ((cred_x _).trans (amt_x (by decide))) _ (lvl_RS c)) $$ [$Hr $Hl $HO $HC2 $HA2]
  iintro ⟨HO, HX2, HZ2⟩
  iapply (got m K c 5 (pX m c (bk c 3)) rfl _ rfl 4 (by decide) (xSl (off3_eq c 2)) ((cred_x _).trans (amt_x (by decide))) _ (lvl_RS c)) $$ [$Hr $Hl $HO $HC5 $HA5]
  iintro ⟨HO, HX3, HZ5⟩
  iapply (got m K c 8 (pG m c (bk c 2)) rfl _ rfl 4 (by decide) (gSl (off4_eq c 2)) ((cred_g _).trans (amt_g (by decide))) _ (lvl_RS c)) $$ [$Hr $Hl $HO $HC8 $HA8]
  iintro ⟨HO, HG2, HZ8⟩
  rw [wp_ret]
  imodintro
  ihave Hk := Hk $$ [$HO $HX2 $HZ2 $HX3 $HZ5 $HG2 $HZ8]
  iexact Hk

/-- The last slice arrives; every row and the whole router are read. -/
theorem part8_spec (v24 w : BitVec 32) {Kt : (Σ' (v225 : IVec S1024x16 32) (v227 : FVec F S1024x1 .f32) (v233 : IVec S1024x1 32) (v237 : FVec F S1024x16 .f32), FVec F S1024x1 .f32) → sProp 𝕄} :
    iprop(recs m K ∗ levAts L lv ∗ ow c (oRS c) ∗ cred (tallyAt (dcell c 11) () (amtN ((11 : Fin 18).val + 1))) ∗ atPos ER (dcell c 11) 0 ∅ 0 ∗ pX m c (bk c 0) ∗ pX m c (bk c 1) ∗ pX m c (bk c 2) ∗ pX m c (bk c 3) ∗ pG m c (bk c 0) ∗ pG m c (bk c 1) ∗ pG m c (bk c 2))
      ⊢ iprop((iprop(ow c (oRS c) ∗ semVal (dcell c 11) 0 ∗ whole c cc0_scratch1 (GF m) ∗ whole c cc0_scratch0 (XF m)) -∗ Kt ⟨q225, q227 m, q233 m, q237 m, q239 m⟩) -∗ wp frame (wpE (defs₀ (F := F)) 𝒱₀ (c : Thread nD τ) none) Set.univ
          (k0_part8 (F := F) a0M (Memref.isWhole_whole _) a1M (Memref.isWhole_whole _) a2M (Memref.isWhole_whole _) a3M (Memref.isWhole_whole _) oM (Memref.isWhole_whole _) xM (Memref.isWhole_whole _) gM (Memref.isWhole_whole _) w1M (Memref.isWhole_whole _) w2M (Memref.isWhole_whole _) accM (Memref.isWhole_whole _) sM (Memref.isWhole_whole _) rM (Memref.isWhole_whole _) cc0_scratch7 cc0_scratch8 cc0_scratch9 cc0_scratch10 cc0_scratch11 cc0_scratch12 cc0_scratch13 cc0_scratch14 cc0_scratch15 cc0_scratch16 c v24 w) Kt) := by
  rw [k0_part8_eq_skeleton]
  unfold k0_part8_skel
  simp only [semSignalWord, semWaitWord, Prog.lift, Prog.bind_op, Prog.bind_ret, Prog.pure_eq_ret, wp_deviceId]
  unfold q225 q227 q233 q237 q239
  iintro ⟨#Hr, #Hl, HO, HC11, HA11, HX0, HX1, HX2, HX3, HG0, HG1, HG2⟩ Hk
  iapply (got m K c 11 (pG m c (bk c 3)) rfl _ rfl 4 (by decide) (gSl (off4_eq c 2)) ((cred_g _).trans (amt_g (by decide))) _ (lvl_RS c)) $$ [$Hr $Hl $HO $HC11 $HA11]
  iintro ⟨HO, HG3, HZ11⟩
  ihave Hj := (join_x m c) $$ [$HX0 $HX1 $HX2 $HX3]
  irename Hj => HXW
  ihave Hj := (join_g m c) $$ [$HG0 $HG1 $HG2 $HG3]
  irename Hj => HGW
  iapply (load_g m c 0 rfl) $$ [$HGW]
  iintro HGW
  iapply (load_g m c 1 rfl) $$ [$HGW]
  iintro HGW
  iapply (load_g m c 2 rfl) $$ [$HGW]
  iintro HGW
  iapply (load_g m c 3 rfl) $$ [$HGW]
  iintro HGW
  iapply (load_x c (XF m)) $$ [$HXW]
  iintro HXW
  rw [wp_ret]
  imodintro
  ihave Hk := Hk $$ [$HO $HZ11 $HGW $HXW]
  iexact Hk

end Cert.Moe
-- ==== Proof.BodyB.lean ====
/-
# The body, part by part: the experts
-/
module

public import proofs.«01_k».proof.Proof.Steps

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Fin 18) → ℕ) (c : Dev nD)

/-- Expert 0's weights arrive and expert 1's start. -/
theorem part11_spec  {Kt : (Σ' (v353 : IVec S1024x256 1), F .f32) → sProp 𝕄} :
    iprop(recs m K ∗ levAts L lv ∗ ow c (oRS c) ∗ fW1 m c 0 0 ∗ fW2 m c 0 0 ∗ pA2 m c 1 ∗ uW1 c 1 ∗ lz c 3 ∗ pA3 m c 1 ∗ uW2 c 1 ∗ lz c 5)
      ⊢ iprop((iprop(ow c (oRS c) ∗ pW1 m c 0 0 ∗ pA2 m c 0 ∗ lz c 2 ∗ pW2 m c 0 0 ∗ pA3 m c 0 ∗ lz c 4 ∗ fW1 m c 1 1 ∗ fW2 m c 1 1) -∗ Kt ⟨q353 m c, qz⟩) -∗ wp frame (wpE (defs₀ (F := F)) 𝒱₀ (c : Thread nD τ) none) Set.univ
          (k0_part11 (F := F) a0M (Memref.isWhole_whole _) a1M (Memref.isWhole_whole _) a2M (Memref.isWhole_whole _) a3M (Memref.isWhole_whole _) oM (Memref.isWhole_whole _) xM (Memref.isWhole_whole _) gM (Memref.isWhole_whole _) w1M (Memref.isWhole_whole _) w2M (Memref.isWhole_whole _) accM (Memref.isWhole_whole _) sM (Memref.isWhole_whole _) rM (Memref.isWhole_whole _) cc0_scratch7 cc0_scratch8 cc0_scratch9 cc0_scratch10 cc0_scratch11 cc0_scratch12 cc0_scratch13 cc0_scratch14 cc0_scratch15 cc0_scratch16 (q322 m c) q324) Kt) := by
  rw [k0_part11_eq_skeleton]
  unfold k0_part11_skel
  simp only [semSignalWord, semWaitWord, Prog.lift, Prog.bind_op, Prog.bind_ret, Prog.pure_eq_ret, wp_deviceId]
  unfold q353 qz Scalar.ofBits
  iintro ⟨#Hr, #Hl, HO, HfW1_0_0, HfW2_0_0, Ha2_1, HuW1_1, Hz3, Ha3_1, HuW2_1, Hz5⟩ Hk
  iapply (copied_w1 m c 0 0 _ rfl (rfl : w1B 0 = w1B 0) _ 4 (lvl_RS c)) $$ [$Hl $HO $HfW1_0_0]
  iintro ⟨HO, HW1_0_0, Ha2_0, Hz2⟩
  iapply (copied_w2 m c 0 0 _ rfl (rfl : w2B 0 = w2B 0) _ 4 (lvl_RS c)) $$ [$Hl $HO $HfW2_0_0]
  iintro ⟨HO, HW2_0_0, Ha3_0, Hz4⟩
  iapply (copy_w1 m c 1 1 _ rfl rfl rfl) $$ [$Ha2_1 $HuW1_1 $Hz3]
  iintro HfW1_1_1
  iapply (copy_w2 m c 1 1 _ rfl rfl rfl) $$ [$Ha3_1 $HuW2_1 $Hz5]
  iintro HfW2_1_1
  rw [wp_ret]
  imodintro
  ihave Hk := Hk $$ [$HO $HW1_0_0 $Ha2_0 $Hz2 $HW2_0_0 $Ha3_0 $Hz4 $HfW1_1_1 $HfW2_1_1]
  iexact Hk

/-- Expert 0. -/
theorem part12_spec (facc : Buf (Elt F) ((c : Thread nD τ).loc cc0_scratch4)) {Kt : PUnit → sProp 𝕄} :
    iprop(recs m K ∗ levAts L lv ∗ ow c (oRS c) ∗ whole c cc0_scratch0 (XF m) ∗ pW1 m c 0 0 ∗ pW2 m c 0 0 ∗ whole c cc0_scratch4 facc ∗ fW1 m c 1 1)
      ⊢ iprop((iprop(ow c (oRS c) ∗ whole c cc0_scratch0 (XF m) ∗ pW1 m c 0 0 ∗ pW2 m c 0 0 ∗ whole c cc0_scratch4 (acc1 m c) ∗ pW1 m c 1 1 ∗ pA2 m c 1 ∗ lz c 3) -∗ Kt ⟨⟩) -∗ wp frame (wpE (defs₀ (F := F)) 𝒱₀ (c : Thread nD τ) none) Set.univ
          (k0_part12 (F := F) a0M (Memref.isWhole_whole _) a1M (Memref.isWhole_whole _) a2M (Memref.isWhole_whole _) a3M (Memref.isWhole_whole _) oM (Memref.isWhole_whole _) xM (Memref.isWhole_whole _) gM (Memref.isWhole_whole _) w1M (Memref.isWhole_whole _) w2M (Memref.isWhole_whole _) accM (Memref.isWhole_whole _) sM (Memref.isWhole_whole _) rM (Memref.isWhole_whole _) cc0_scratch7 cc0_scratch8 cc0_scratch9 cc0_scratch10 cc0_scratch11 cc0_scratch12 cc0_scratch13 cc0_scratch14 cc0_scratch15 cc0_scratch16 (q264 m c) (q269 m c) (q353 m c) qz) Kt) := by
  rw [k0_part12_eq_skeleton]
  unfold k0_part12_skel
  simp only [semSignalWord, semWaitWord, Prog.lift, Prog.bind_op, Prog.bind_ret, Prog.pure_eq_ret, wp_deviceId]
  iintro ⟨#Hr, #Hl, HO, HXW, HW1_0_0, HW2_0_0, HAcc0, HfW1_1_1⟩ Hk
  iapply (load_x c (XF m)) $$ [$HXW]
  iintro HXW
  iapply (load_w1 m c 0 0 rfl) $$ [$HW1_0_0]
  iintro HW1_0_0
  iapply (load_w2 m c 0 0 rfl) $$ [$HW2_0_0]
  iintro HW2_0_0
  iapply (load_acc c _) $$ [$HAcc0]
  iintro HAcc0
  iapply (store_acc c _ _) $$ [$HAcc0]
  iintro HAcc1
  iapply (copied_w1 m c 1 1 _ rfl (rfl : w1B 1 = w1B 1) _ 4 (lvl_RS c)) $$ [$Hl $HO $HfW1_1_1]
  iintro ⟨HO, HW1_1_1, Ha2_1, Hz3⟩
  rw [wp_ret]
  imodintro
  ihave Hk := Hk $$ [$HO $HXW $HW1_0_0 $HW2_0_0 $HAcc1 $HW1_1_1 $Ha2_1 $Hz3]
  iexact Hk

/-- Expert 1's weights are in and expert 2's start. -/
theorem part13_spec  {Kt : (Σ' (v411 : IVec S1024x256 1) (v414 : FVec F S1024x256 .f32) (v416 : FVec F S1024x256 .f32), FVec F S1024x256 .f32) → sProp 𝕄} :
    iprop(recs m K ∗ levAts L lv ∗ ow c (oRS c) ∗ fW2 m c 1 1 ∗ pW1 m c 0 0 ∗ pW2 m c 0 0 ∗ pA2 m c 2 ∗ lz c 2 ∗ pA3 m c 2 ∗ lz c 4)
      ⊢ iprop((iprop(ow c (oRS c) ∗ pW2 m c 1 1 ∗ pA3 m c 1 ∗ lz c 5 ∗ fW1 m c 0 2 ∗ fW2 m c 0 2) -∗ Kt ⟨q411 m c, q414 m c, q416 m c, q417⟩) -∗ wp frame (wpE (defs₀ (F := F)) 𝒱₀ (c : Thread nD τ) none) Set.univ
          (k0_part13 (F := F) a0M (Memref.isWhole_whole _) a1M (Memref.isWhole_whole _) a2M (Memref.isWhole_whole _) a3M (Memref.isWhole_whole _) oM (Memref.isWhole_whole _) xM (Memref.isWhole_whole _) gM (Memref.isWhole_whole _) w1M (Memref.isWhole_whole _) w2M (Memref.isWhole_whole _) accM (Memref.isWhole_whole _) sM (Memref.isWhole_whole _) rM (Memref.isWhole_whole _) cc0_scratch7 cc0_scratch8 cc0_scratch9 cc0_scratch10 cc0_scratch11 cc0_scratch12 cc0_scratch13 cc0_scratch14 cc0_scratch15 cc0_scratch16 (q279 m c) (q284 m c) (q322 m c) q324) Kt) := by
  rw [k0_part13_eq_skeleton]
  unfold k0_part13_skel
  simp only [semSignalWord, semWaitWord, Prog.lift, Prog.bind_op, Prog.bind_ret, Prog.pure_eq_ret, wp_deviceId]
  unfold q411 q414 q416 q417
  iintro ⟨#Hr, #Hl, HO, HfW2_1_1, HW1_0_0, HW2_0_0, Ha2_2, Hz2, Ha3_2, Hz4⟩ Hk
  iapply (copied_w2 m c 1 1 _ rfl (rfl : w2B 1 = w2B 1) _ 4 (lvl_RS c)) $$ [$Hl $HO $HfW2_1_1]
  iintro ⟨HO, HW2_1_1, Ha3_1, Hz5⟩
  ihave HuW1_0 := (uW1_of m c 0 0) $$ HW1_0_0
  ihave HuW2_0 := (uW2_of m c 0 0) $$ HW2_0_0
  iapply (copy_w1 m c 0 2 _ rfl rfl rfl) $$ [$Ha2_2 $HuW1_0 $Hz2]
  iintro HfW1_0_2
  iapply (copy_w2 m c 0 2 _ rfl rfl rfl) $$ [$Ha3_2 $HuW2_0 $Hz4]
  iintro HfW2_0_2
  rw [wp_ret]
  imodintro
  ihave Hk := Hk $$ [$HO $HW2_1_1 $Ha3_1 $Hz5 $HfW1_0_2 $HfW2_0_2]
  iexact Hk

/-- Expert 1. -/
theorem part14_spec  {Kt : PUnit → sProp 𝕄} :
    iprop(recs m K ∗ levAts L lv ∗ ow c (oRS c) ∗ whole c cc0_scratch0 (XF m) ∗ pW1 m c 1 1 ∗ pW2 m c 1 1 ∗ whole c cc0_scratch4 (acc1 m c) ∗ fW1 m c 0 2)
      ⊢ iprop((iprop(ow c (oRS c) ∗ whole c cc0_scratch0 (XF m) ∗ pW1 m c 1 1 ∗ pW2 m c 1 1 ∗ whole c cc0_scratch4 (acc2 m c) ∗ pW1 m c 0 2 ∗ pA2 m c 2 ∗ lz c 2) -∗ Kt ⟨⟩) -∗ wp frame (wpE (defs₀ (F := F)) 𝒱₀ (c : Thread nD τ) none) Set.univ
          (k0_part14 (F := F) a0M (Memref.isWhole_whole _) a1M (Memref.isWhole_whole _) a2M (Memref.isWhole_whole _) a3M (Memref.isWhole_whole _) oM (Memref.isWhole_whole _) xM (Memref.isWhole_whole _) gM (Memref.isWhole_whole _) w1M (Memref.isWhole_whole _) w2M (Memref.isWhole_whole _) accM (Memref.isWhole_whole _) sM (Memref.isWhole_whole _) rM (Memref.isWhole_whole _) cc0_scratch7 cc0_scratch8 cc0_scratch9 cc0_scratch10 cc0_scratch11 cc0_scratch12 cc0_scratch13 cc0_scratch14 cc0_scratch15 cc0_scratch16 (q411 m c) (q414 m c) (q416 m c) q417) Kt) := by
  rw [k0_part14_eq_skeleton]
  unfold k0_part14_skel
  simp only [semSignalWord, semWaitWord, Prog.lift, Prog.bind_op, Prog.bind_ret, Prog.pure_eq_ret, wp_deviceId]
  iintro ⟨#Hr, #Hl, HO, HXW, HW1_1_1, HW2_1_1, HAcc1, HfW1_0_2⟩ Hk
  iapply (load_x c (XF m)) $$ [$HXW]
  iintro HXW
  iapply (load_w1 m c 1 1 rfl) $$ [$HW1_1_1]
  iintro HW1_1_1
  iapply (load_w2 m c 1 1 rfl) $$ [$HW2_1_1]
  iintro HW2_1_1
  iapply (load_acc c _) $$ [$HAcc1]
  iintro HAcc1
  iapply (load_acc c _) $$ [$HAcc1]
  iintro HAcc1
  iapply (store_acc c _ _) $$ [$HAcc1]
  iintro HAcc2
  iapply (copied_w1 m c 0 2 _ rfl (rfl : w1B 0 = w1B 0) _ 4 (lvl_RS c)) $$ [$Hl $HO $HfW1_0_2]
  iintro ⟨HO, HW1_0_2, Ha2_2, Hz2⟩
  rw [wp_ret]
  imodintro
  ihave Hk := Hk $$ [$HO $HXW $HW1_1_1 $HW2_1_1 $HAcc2 $HW1_0_2 $Ha2_2 $Hz2]
  iexact Hk

/-- Expert 2's weights are in and expert 3's start. -/
theorem part15_spec  {Kt : (Σ' (v474 : FVec F S1024x256 .f32), FVec F S256x1024 .f32) → sProp 𝕄} :
    iprop(recs m K ∗ levAts L lv ∗ ow c (oRS c) ∗ fW2 m c 0 2 ∗ pW1 m c 1 1 ∗ pW2 m c 1 1 ∗ pA2 m c 3 ∗ lz c 3 ∗ pA3 m c 3 ∗ lz c 5 ∗ whole c cc0_scratch0 (XF m))
      ⊢ iprop((iprop(ow c (oRS c) ∗ pW2 m c 0 2 ∗ pA3 m c 2 ∗ lz c 4 ∗ fW1 m c 1 3 ∗ fW2 m c 1 3 ∗ whole c cc0_scratch0 (XF m)) -∗ Kt ⟨q474 m c, q476 m c⟩) -∗ wp frame (wpE (defs₀ (F := F)) 𝒱₀ (c : Thread nD τ) none) Set.univ
          (k0_part15 (F := F) a0M (Memref.isWhole_whole _) a1M (Memref.isWhole_whole _) a2M (Memref.isWhole_whole _) a3M (Memref.isWhole_whole _) oM (Memref.isWhole_whole _) xM (Memref.isWhole_whole _) gM (Memref.isWhole_whole _) w1M (Memref.isWhole_whole _) w2M (Memref.isWhole_whole _) accM (Memref.isWhole_whole _) sM (Memref.isWhole_whole _) rM (Memref.isWhole_whole _) cc0_scratch7 cc0_scratch8 cc0_scratch9 cc0_scratch10 cc0_scratch11 cc0_scratch12 cc0_scratch13 cc0_scratch14 cc0_scratch15 cc0_scratch16 (q294 m c) (q299 m c) (q322 m c) q324) Kt) := by
  rw [k0_part15_eq_skeleton]
  unfold k0_part15_skel
  simp only [semSignalWord, semWaitWord, Prog.lift, Prog.bind_op, Prog.bind_ret, Prog.pure_eq_ret, wp_deviceId]
  unfold q474 q476
  iintro ⟨#Hr, #Hl, HO, HfW2_0_2, HW1_1_1, HW2_1_1, Ha2_3, Hz3, Ha3_3, Hz5, HXW⟩ Hk
  iapply (copied_w2 m c 0 2 _ rfl (rfl : w2B 0 = w2B 0) _ 4 (lvl_RS c)) $$ [$Hl $HO $HfW2_0_2]
  iintro ⟨HO, HW2_0_2, Ha3_2, Hz4⟩
  ihave HuW1_1 := (uW1_of m c 1 1) $$ HW1_1_1
  ihave HuW2_1 := (uW2_of m c 1 1) $$ HW2_1_1
  iapply (copy_w1 m c 1 3 _ rfl rfl rfl) $$ [$Ha2_3 $HuW1_1 $Hz3]
  iintro HfW1_1_3
  iapply (copy_w2 m c 1 3 _ rfl rfl rfl) $$ [$Ha3_3 $HuW2_1 $Hz5]
  iintro HfW2_1_3
  iapply (load_x c (XF m)) $$ [$HXW]
  iintro HXW
  rw [wp_ret]
  imodintro
  ihave Hk := Hk $$ [$HO $HW2_0_2 $Ha3_2 $Hz4 $HfW1_1_3 $HfW2_1_3 $HXW]
  iexact Hk

/-- Expert 2; expert 3's weights are in. -/
theorem part16_spec  {Kt : IVec S1024x256 1 → sProp 𝕄} :
    iprop(recs m K ∗ levAts L lv ∗ ow c (oRS c) ∗ pW1 m c 0 2 ∗ pW2 m c 0 2 ∗ whole c cc0_scratch4 (acc2 m c) ∗ fW1 m c 1 3 ∗ fW2 m c 1 3)
      ⊢ iprop((iprop(ow c (oRS c) ∗ pW1 m c 0 2 ∗ pW2 m c 0 2 ∗ whole c cc0_scratch4 (acc3 m c) ∗ pW1 m c 1 3 ∗ pA2 m c 3 ∗ lz c 3 ∗ pW2 m c 1 3 ∗ pA3 m c 3 ∗ lz c 5) -∗ Kt (q507 m c)) -∗ wp frame (wpE (defs₀ (F := F)) 𝒱₀ (c : Thread nD τ) none) Set.univ
          (k0_part16 (F := F) a0M (Memref.isWhole_whole _) a1M (Memref.isWhole_whole _) a2M (Memref.isWhole_whole _) a3M (Memref.isWhole_whole _) oM (Memref.isWhole_whole _) xM (Memref.isWhole_whole _) gM (Memref.isWhole_whole _) w1M (Memref.isWhole_whole _) w2M (Memref.isWhole_whole _) accM (Memref.isWhole_whole _) sM (Memref.isWhole_whole _) rM (Memref.isWhole_whole _) cc0_scratch7 cc0_scratch8 cc0_scratch9 cc0_scratch10 cc0_scratch11 cc0_scratch12 cc0_scratch13 cc0_scratch14 cc0_scratch15 cc0_scratch16 (q322 m c) q324 (q474 m c) (q476 m c)) Kt) := by
  rw [k0_part16_eq_skeleton]
  unfold k0_part16_skel
  simp only [semSignalWord, semWaitWord, Prog.lift, Prog.bind_op, Prog.bind_ret, Prog.pure_eq_ret, wp_deviceId]
  unfold q507
  iintro ⟨#Hr, #Hl, HO, HW1_0_2, HW2_0_2, HAcc2, HfW1_1_3, HfW2_1_3⟩ Hk
  iapply (load_w1 m c 0 2 rfl) $$ [$HW1_0_2]
  iintro HW1_0_2
  iapply (load_w2 m c 0 2 rfl) $$ [$HW2_0_2]
  iintro HW2_0_2
  iapply (load_acc c _) $$ [$HAcc2]
  iintro HAcc2
  iapply (load_acc c _) $$ [$HAcc2]
  iintro HAcc2
  iapply (store_acc c _ _) $$ [$HAcc2]
  iintro HAcc3
  iapply (copied_w1 m c 1 3 _ rfl (rfl : w1B 1 = w1B 1) _ 4 (lvl_RS c)) $$ [$Hl $HO $HfW1_1_3]
  iintro ⟨HO, HW1_1_3, Ha2_3, Hz3⟩
  iapply (copied_w2 m c 1 3 _ rfl (rfl : w2B 1 = w2B 1) _ 4 (lvl_RS c)) $$ [$Hl $HO $HfW2_1_3]
  iintro ⟨HO, HW2_1_3, Ha3_3, Hz5⟩
  rw [wp_ret]
  imodintro
  ihave Hk := Hk $$ [$HO $HW1_0_2 $HW2_0_2 $HAcc3 $HW1_1_3 $Ha2_3 $Hz3 $HW2_1_3 $Ha3_3 $Hz5]
  iexact Hk

/-- Expert 3. -/
theorem part17_spec (v2 : BitVec 32) {Kt : (Σ' (v538 : BitVec 32) (v539 : BitVec 32), BitVec 32) → sProp 𝕄} :
    iprop(recs m K ∗ levAts L lv ∗ whole c cc0_scratch0 (XF m) ∗ pW1 m c 1 3 ∗ pW2 m c 1 3 ∗ whole c cc0_scratch4 (acc3 m c))
      ⊢ iprop((iprop(whole c cc0_scratch0 (XF m) ∗ pW1 m c 1 3 ∗ pW2 m c 1 3 ∗ whole c cc0_scratch4 (acc4 m c)) -∗ ∀ v, Kt v) -∗ wp frame (wpE (defs₀ (F := F)) 𝒱₀ (c : Thread nD τ) none) Set.univ
          (k0_part17 (F := F) a0M (Memref.isWhole_whole _) a1M (Memref.isWhole_whole _) a2M (Memref.isWhole_whole _) a3M (Memref.isWhole_whole _) oM (Memref.isWhole_whole _) xM (Memref.isWhole_whole _) gM (Memref.isWhole_whole _) w1M (Memref.isWhole_whole _) w2M (Memref.isWhole_whole _) accM (Memref.isWhole_whole _) sM (Memref.isWhole_whole _) rM (Memref.isWhole_whole _) cc0_scratch7 cc0_scratch8 cc0_scratch9 cc0_scratch10 cc0_scratch11 cc0_scratch12 cc0_scratch13 cc0_scratch14 cc0_scratch15 cc0_scratch16 v2 (q309 m c) (q314 m c) (q507 m c)) Kt) := by
  rw [k0_part17_eq_skeleton]
  unfold k0_part17_skel
  simp only [semSignalWord, semWaitWord, Prog.lift, Prog.bind_op, Prog.bind_ret, Prog.pure_eq_ret, wp_deviceId]
  iintro ⟨#Hr, #Hl, HXW, HW1_1_3, HW2_1_3, HAcc3⟩ Hk
  iapply (load_x c (XF m)) $$ [$HXW]
  iintro HXW
  iapply (load_w1 m c 1 3 rfl) $$ [$HW1_1_3]
  iintro HW1_1_3
  iapply (load_w2 m c 1 3 rfl) $$ [$HW2_1_3]
  iintro HW2_1_3
  iapply (load_acc c _) $$ [$HAcc3]
  iintro HAcc3
  iapply (load_acc c _) $$ [$HAcc3]
  iintro HAcc3
  iapply (store_acc c _ _) $$ [$HAcc3]
  iintro HAcc4
  rw [wp_ret]
  imodintro
  ihave Hk := Hk $$ [$HXW $HW1_1_3 $HW2_1_3 $HAcc4]
  iexact Hk

end Cert.Moe
-- ==== Proof.BodyC.lean ====
/-
# The body, part by part: the reduce-scatter
-/
module

public import proofs.«01_k».proof.Proof.Steps

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Fin 18) → ℕ) (c : Dev nD)

theorem lvl_R1 (c : Dev nD) : ∀ p ∈ [owR c 16, owR c 17], p.1.1.2 = .tc ∧ 5 < lv p.1 () :=
  lvl_cons 5 (lvl_owR c 16 5 (by decide)) (lvl_cons 5 (lvl_owR c 17 5 (by decide)) (lvl_nil 5))
theorem lvl_R2 (c : Dev nD) : ∀ p ∈ [owR c 17], p.1.1.2 = .tc ∧ 6 < lv p.1 () :=
  lvl_cons 6 (lvl_owR c 17 6 (by decide)) (lvl_nil 6)

/-- Step 0 of the reduce-scatter leaves. -/
theorem part18_spec (fs : Buf (Elt F) ((c : Thread nD τ).loc cc0_scratch5)) (v24 v538 v539 w : BitVec 32) {Kt : PUnit → sProp 𝕄} :
    iprop(recs m K ∗ levAts L lv ∗ ow c (oRS c) ∗ whole c cc0_scratch4 (acc4 m c) ∗ whole c cc0_scratch5 fs ∗ uR (nxt c) 0 ∗ dutyTok ER (dcell c 12) 0 false ∗ dutyTok ER (dcell (nxt c) 15) 0 false ∗ atPos ER (dcell c 12) 0 ∅ 0)
      ⊢ iprop((iprop(ow c ([owR c 16, owR c 17]) ∗ whole c cc0_scratch4 (acc4 m c) ∗ whole c cc0_scratch5 (D0 m c) ∗ semVal (dcell c 12) 0) -∗ Kt ⟨⟩) -∗ wp frame (wpE (defs₀ (F := F)) 𝒱₀ (c : Thread nD τ) none) Set.univ
          (k0_part18 (F := F) a0M (Memref.isWhole_whole _) a1M (Memref.isWhole_whole _) a2M (Memref.isWhole_whole _) a3M (Memref.isWhole_whole _) oM (Memref.isWhole_whole _) xM (Memref.isWhole_whole _) gM (Memref.isWhole_whole _) w1M (Memref.isWhole_whole _) w2M (Memref.isWhole_whole _) accM (Memref.isWhole_whole _) sM (Memref.isWhole_whole _) rM (Memref.isWhole_whole _) cc0_scratch7 cc0_scratch8 cc0_scratch9 cc0_scratch10 cc0_scratch11 cc0_scratch12 cc0_scratch13 cc0_scratch14 cc0_scratch15 cc0_scratch16 c v24 v538 v539 w) Kt) := by
  rw [k0_part18_eq_skeleton]
  unfold k0_part18_skel
  simp only [semSignalWord, semWaitWord, Prog.lift, Prog.bind_op, Prog.bind_ret, Prog.pure_eq_ret, wp_deviceId]
  iintro ⟨#Hr, #Hl, HO, HAcc4, HS0, HnR0, HTd12, HTr15, HA12⟩ Hk
  iapply (load_band m c (bk c 1) (off5_eq c 0)) $$ [$HAcc4]
  iintro HAcc4
  iapply (load_s c _) $$ [$HS0]
  iintro HS0
  iapply (store_s c _ _) $$ [$HS0]
  iintro HSD0
  ihave HSD0 := (Entails.of_eq (show (whole c cc0_scratch5 (k0_pay44 (accB m c (bk c 1))) : sProp 𝕄) = whole c cc0_scratch5 (D0 m c) from rfl)) $$ HSD0
  ihave HpSD0 := (Entails.of_eq (show (whole c cc0_scratch5 (D0 m c) : sProp 𝕄) = pS c (DS m 0 c) from whole_s c _)) $$ HSD0
  ihave HO := (Entails.of_eq (show (ow c (oRS c) : sProp 𝕄) = ow c (owR c 15 :: [owR c 16, owR c 17]) from rfl)) $$ HO
  iapply (send_r m K c 0 _ (dev9_eq c) 12 15 _ _ rfl rfl rfl (congrArg (fun d => pR m d 0) rfl) (amt_x (by decide)) ((amt_x (by decide)).symm.trans (amt_x (by decide))) rfl rfl ([owR c 16, owR c 17])) $$ [$Hr $HO $HpSD0 $HnR0 $HTd12 $HTr15]
  iintro ⟨HO, HC12⟩
  iapply (got m K c 12 (whole c cc0_scratch5 (D0 m c)) (whole_s c _).symm _ rfl 5 (by decide) (rfl : sM = sM) (cred_s.trans (amt_x (by decide))) _ (lvl_R1 c)) $$ [$Hr $Hl $HO $HC12 $HA12]
  iintro ⟨HO, HSD0, HZ12⟩
  rw [wp_ret]
  imodintro
  ihave Hk := Hk $$ [$HO $HAcc4 $HSD0 $HZ12]
  iexact Hk

/-- Step 0 arrives and step 1 is sent. -/
theorem part19_spec (v2 v24 : BitVec 32) {Kt : PUnit → sProp 𝕄} :
    iprop(recs m K ∗ levAts L lv ∗ ow c ([owR c 16, owR c 17]) ∗ cred (tallyAt (dcell c 15) () (amtN ((15 : Fin 18).val + 1))) ∗ atPos ER (dcell c 15) 0 ∅ 0 ∗ whole c cc0_scratch4 (acc4 m c) ∗ whole c cc0_scratch5 (D0 m c) ∗ uR (nxt c) 1 ∗ dutyTok ER (dcell c 13) 0 false ∗ dutyTok ER (dcell (nxt c) 16) 0 false)
      ⊢ iprop((iprop(ow c ([owR c 17]) ∗ semVal (dcell c 15) 0 ∗ whole c cc0_scratch4 (acc4 m c) ∗ pR m c 0 ∗ cred (tallyAt (dcell c 13) () (amtN ((13 : Fin 18).val + 1)))) -∗ Kt ⟨⟩) -∗ wp frame (wpE (defs₀ (F := F)) 𝒱₀ (c : Thread nD τ) none) Set.univ
          (k0_part19 (F := F) a0M (Memref.isWhole_whole _) a1M (Memref.isWhole_whole _) a2M (Memref.isWhole_whole _) a3M (Memref.isWhole_whole _) oM (Memref.isWhole_whole _) xM (Memref.isWhole_whole _) gM (Memref.isWhole_whole _) w1M (Memref.isWhole_whole _) w2M (Memref.isWhole_whole _) accM (Memref.isWhole_whole _) sM (Memref.isWhole_whole _) rM (Memref.isWhole_whole _) cc0_scratch7 cc0_scratch8 cc0_scratch9 cc0_scratch10 cc0_scratch11 cc0_scratch12 cc0_scratch13 cc0_scratch14 cc0_scratch15 cc0_scratch16 c v2 v24) Kt) := by
  rw [k0_part19_eq_skeleton]
  unfold k0_part19_skel
  simp only [semSignalWord, semWaitWord, Prog.lift, Prog.bind_op, Prog.bind_ret, Prog.pure_eq_ret, wp_deviceId]
  iintro ⟨#Hr, #Hl, HO, HC15, HA15, HAcc4, HSD0, HnR1, HTd13, HTr16⟩ Hk
  iapply (got m K c 15 (pR m c 0) rfl _ rfl 5 (by decide) (rfl : rB 0 = rB 0) ((cred_r _).trans (amt_x (by decide))) _ (lvl_R1 c)) $$ [$Hr $Hl $HO $HC15 $HA15]
  iintro ⟨HO, HR0, HZ15⟩
  iapply (load_band m c (bk c 2) (off5_eq c 1)) $$ [$HAcc4]
  iintro HAcc4
  iapply (load_r m c 0 rfl) $$ [$HR0]
  iintro HR0
  iapply (load_s c _) $$ [$HSD0]
  iintro HSD0
  iapply (store_s c _ _) $$ [$HSD0]
  iintro HSD1
  ihave HSD1 := (Entails.of_eq (show (whole c cc0_scratch5 (k0_pay45 (accB m c (bk c 2)) (up3 (DS m 0 (prv c)))) : sProp 𝕄) = whole c cc0_scratch5 (D1 m c) from rfl)) $$ HSD1
  ihave HpSD1 := (Entails.of_eq (show (whole c cc0_scratch5 (D1 m c) : sProp 𝕄) = pS c (DS m 1 c) from whole_s c _)) $$ HSD1
  ihave HO := (Entails.of_eq (show (ow c ([owR c 16, owR c 17]) : sProp 𝕄) = ow c (owR c 16 :: [owR c 17]) from rfl)) $$ HO
  iapply (send_r m K c 1 _ (dev10_eq c) 13 16 _ _ rfl rfl rfl (congrArg (fun d => pR m d 1) rfl) (amt_x (by decide)) ((amt_x (by decide)).symm.trans (amt_x (by decide))) rfl rfl ([owR c 17])) $$ [$Hr $HO $HpSD1 $HnR1 $HTd13 $HTr16]
  iintro ⟨HO, HC13⟩
  rw [wp_ret]
  imodintro
  ihave Hk := Hk $$ [$HO $HZ15 $HAcc4 $HR0 $HC13]
  iexact Hk

/-- Step 1 arrives and step 2 is made ready. -/
theorem part20_spec (v2 v24 : BitVec 32) {Kt : BitVec 32 → sProp 𝕄} :
    iprop(recs m K ∗ levAts L lv ∗ ow c ([owR c 17]) ∗ cred (tallyAt (dcell c 13) () (amtN ((13 : Fin 18).val + 1))) ∗ atPos ER (dcell c 13) 0 ∅ 0 ∗ cred (tallyAt (dcell c 16) () (amtN ((16 : Fin 18).val + 1))) ∗ atPos ER (dcell c 16) 0 ∅ 0 ∗ whole c cc0_scratch4 (acc4 m c))
      ⊢ iprop((iprop(ow c ([owR c 17]) ∗ semVal (dcell c 13) 0 ∗ semVal (dcell c 16) 0 ∗ whole c cc0_scratch4 (acc4 m c) ∗ pR m c 1 ∗ whole c cc0_scratch5 (D2 m c)) -∗ ∀ v, Kt v) -∗ wp frame (wpE (defs₀ (F := F)) 𝒱₀ (c : Thread nD τ) none) Set.univ
          (k0_part20 (F := F) a0M (Memref.isWhole_whole _) a1M (Memref.isWhole_whole _) a2M (Memref.isWhole_whole _) a3M (Memref.isWhole_whole _) oM (Memref.isWhole_whole _) xM (Memref.isWhole_whole _) gM (Memref.isWhole_whole _) w1M (Memref.isWhole_whole _) w2M (Memref.isWhole_whole _) accM (Memref.isWhole_whole _) sM (Memref.isWhole_whole _) rM (Memref.isWhole_whole _) cc0_scratch7 cc0_scratch8 cc0_scratch9 cc0_scratch10 cc0_scratch11 cc0_scratch12 cc0_scratch13 cc0_scratch14 cc0_scratch15 cc0_scratch16 c v2 v24) Kt) := by
  rw [k0_part20_eq_skeleton]
  unfold k0_part20_skel
  simp only [semSignalWord, semWaitWord, Prog.lift, Prog.bind_op, Prog.bind_ret, Prog.pure_eq_ret, wp_deviceId]
  iintro ⟨#Hr, #Hl, HO, HC13, HA13, HC16, HA16, HAcc4⟩ Hk
  iapply (got m K c 13 (whole c cc0_scratch5 (D1 m c)) (whole_s c _).symm _ rfl 6 (by decide) (rfl : sM = sM) (cred_s.trans (amt_x (by decide))) _ (lvl_R2 c)) $$ [$Hr $Hl $HO $HC13 $HA13]
  iintro ⟨HO, HSD1, HZ13⟩
  iapply (got m K c 16 (pR m c 1) rfl _ rfl 6 (by decide) (rfl : rB 1 = rB 1) ((cred_r _).trans (amt_x (by decide))) _ (lvl_R2 c)) $$ [$Hr $Hl $HO $HC16 $HA16]
  iintro ⟨HO, HR1, HZ16⟩
  iapply (load_band m c (bk c 3) (off5_eq c 2)) $$ [$HAcc4]
  iintro HAcc4
  iapply (load_r m c 1 rfl) $$ [$HR1]
  iintro HR1
  iapply (load_s c _) $$ [$HSD1]
  iintro HSD1
  iapply (store_s c _ _) $$ [$HSD1]
  iintro HSD2
  ihave HSD2 := (Entails.of_eq (show (whole c cc0_scratch5 (k0_pay46 (accB m c (bk c 3)) (up3 (DS m 1 (prv c)))) : sProp 𝕄) = whole c cc0_scratch5 (D2 m c) from rfl)) $$ HSD2
  rw [wp_ret]
  imodintro
  ihave Hk := Hk $$ [$HO $HZ13 $HZ16 $HAcc4 $HR1 $HSD2]
  iexact Hk

end Cert.Moe
-- ==== Proof.Body.lean ====
/-
# The body, part by part: the whole
-/
module

public import proofs.«01_k».proof.Proof.BodyA
public import proofs.«01_k».proof.Proof.BodyB
public import proofs.«01_k».proof.Proof.BodyC

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Fin 18) → ℕ) (c : Dev nD)

theorem part9_eq : k0_part9 (F := F) a0M (Memref.isWhole_whole _) a1M (Memref.isWhole_whole _) a2M (Memref.isWhole_whole _) a3M (Memref.isWhole_whole _) oM (Memref.isWhole_whole _) xM (Memref.isWhole_whole _) gM (Memref.isWhole_whole _) w1M (Memref.isWhole_whole _) w2M (Memref.isWhole_whole _) accM (Memref.isWhole_whole _) sM (Memref.isWhole_whole _) rM (Memref.isWhole_whole _) cc0_scratch7 cc0_scratch8 cc0_scratch9 cc0_scratch10 cc0_scratch11 cc0_scratch12 cc0_scratch13 cc0_scratch14 cc0_scratch15 cc0_scratch16 (v2w c) q225 (q227 m) (q233 m) (q237 m) (q239 m)
    = Prog.ret ⟨q245 m, q251 m, q254 m, q264 m c, q269 m c, q275 m c, q279 m c, q281 m c, q282⟩ := by
  rw [k0_part9_eq_skeleton]; rfl
theorem part10_eq : k0_part10 (F := F) a0M (Memref.isWhole_whole _) a1M (Memref.isWhole_whole _) a2M (Memref.isWhole_whole _) a3M (Memref.isWhole_whole _) oM (Memref.isWhole_whole _) xM (Memref.isWhole_whole _) gM (Memref.isWhole_whole _) w1M (Memref.isWhole_whole _) w2M (Memref.isWhole_whole _) accM (Memref.isWhole_whole _) sM (Memref.isWhole_whole _) rM (Memref.isWhole_whole _) cc0_scratch7 cc0_scratch8 cc0_scratch9 cc0_scratch10 cc0_scratch11 cc0_scratch12 cc0_scratch13 cc0_scratch14 cc0_scratch15 cc0_scratch16 (v2w c) (q233 m) (q245 m) (q251 m) (q254 m) (q264 m c) (q275 m c) (q279 m c) (q281 m c) q282
    = Prog.ret ⟨q284 m c, q294 m c, q299 m c, q309 m c, q314 m c, q322 m c, q324⟩ := by
  rw [k0_part10_eq_skeleton]; rfl
/-- The kernel up to its result's store. -/
theorem part21_spec (facc : Buf (Elt F) ((c : Thread nD τ).loc cc0_scratch4)) (fs : Buf (Elt F) ((c : Thread nD τ).loc cc0_scratch5)) {Kt : Dev nD → sProp 𝕄} :
    iprop(recs m K ∗ levAts L lv ∗ ow c (oAll c) ∗ pA0 m c ∗ uX c (bk c 0) ∗ lz c 0 ∗ pA1 m c ∗ uG c (bk c 0) ∗ lz c 1 ∗ pA2 m c 0 ∗ uW1 c 0 ∗ lz c 2 ∗ pA3 m c 0 ∗ uW2 c 0 ∗ lz c 4 ∗ dutyTok ER (barCell (prv c)) 0 true ∗ (ringRd m).payload (barCell (prv c)) 0 true ∗ dutyTok ER (barCell (nxt c)) 0 false ∗ (ringRd m).payload (barCell (nxt c)) 0 false ∗ cred (tallyAt (barCell c) () 2) ∗ atPos ER (barCell c) 0 ∅ 0 ∗ dutyTok ER (dcell c 0) 0 false ∗ dutyTok ER (dcell (nxt c) 3) 0 false ∗ dutyTok ER (dcell c 6) 0 false ∗ dutyTok ER (dcell (nxt c) 9) 0 false ∗ atPos ER (dcell c 0) 0 ∅ 0 ∗ cred (tallyAt (dcell c 3) () (amtN ((3 : Fin 18).val + 1))) ∗ atPos ER (dcell c 3) 0 ∅ 0 ∗ atPos ER (dcell c 6) 0 ∅ 0 ∗ cred (tallyAt (dcell c 9) () (amtN ((9 : Fin 18).val + 1))) ∗ atPos ER (dcell c 9) 0 ∅ 0 ∗ dutyTok ER (dcell c 1) 0 false ∗ dutyTok ER (dcell (nxt c) 4) 0 false ∗ dutyTok ER (dcell c 7) 0 false ∗ dutyTok ER (dcell (nxt c) 10) 0 false ∗ atPos ER (dcell c 1) 0 ∅ 0 ∗ cred (tallyAt (dcell c 4) () (amtN ((4 : Fin 18).val + 1))) ∗ atPos ER (dcell c 4) 0 ∅ 0 ∗ atPos ER (dcell c 7) 0 ∅ 0 ∗ cred (tallyAt (dcell c 10) () (amtN ((10 : Fin 18).val + 1))) ∗ atPos ER (dcell c 10) 0 ∅ 0 ∗ dutyTok ER (dcell c 2) 0 false ∗ dutyTok ER (dcell (nxt c) 5) 0 false ∗ dutyTok ER (dcell c 8) 0 false ∗ dutyTok ER (dcell (nxt c) 11) 0 false ∗ atPos ER (dcell c 2) 0 ∅ 0 ∗ cred (tallyAt (dcell c 5) () (amtN ((5 : Fin 18).val + 1))) ∗ atPos ER (dcell c 5) 0 ∅ 0 ∗ atPos ER (dcell c 8) 0 ∅ 0 ∗ cred (tallyAt (dcell c 11) () (amtN ((11 : Fin 18).val + 1))) ∗ atPos ER (dcell c 11) 0 ∅ 0 ∗ pA2 m c 1 ∗ uW1 c 1 ∗ lz c 3 ∗ pA3 m c 1 ∗ uW2 c 1 ∗ lz c 5 ∗ whole c cc0_scratch4 facc ∗ pA2 m c 2 ∗ pA3 m c 2 ∗ pA2 m c 3 ∗ pA3 m c 3 ∗ whole c cc0_scratch5 fs ∗ dutyTok ER (dcell c 12) 0 false ∗ dutyTok ER (dcell (nxt c) 15) 0 false ∗ atPos ER (dcell c 12) 0 ∅ 0 ∗ cred (tallyAt (dcell c 15) () (amtN ((15 : Fin 18).val + 1))) ∗ atPos ER (dcell c 15) 0 ∅ 0 ∗ dutyTok ER (dcell c 13) 0 false ∗ dutyTok ER (dcell (nxt c) 16) 0 false ∗ atPos ER (dcell c 13) 0 ∅ 0 ∗ cred (tallyAt (dcell c 16) () (amtN ((16 : Fin 18).val + 1))) ∗ atPos ER (dcell c 16) 0 ∅ 0 ∗ dutyTok ER (dcell c 14) 0 false ∗ dutyTok ER (dcell (nxt c) 17) 0 false ∗ atPos ER (dcell c 14) 0 ∅ 0 ∗ cred (tallyAt (dcell c 17) () (amtN ((17 : Fin 18).val + 1))) ∗ atPos ER (dcell c 17) 0 ∅ 0)
      ⊢ iprop((iprop(ow c ([]) ∗ semVal (barCell c) 0 ∗ pA0 m c ∗ lz c 0 ∗ pA1 m c ∗ lz c 1 ∗ semVal (dcell c 0) 0 ∗ semVal (dcell c 3) 0 ∗ semVal (dcell c 6) 0 ∗ semVal (dcell c 9) 0 ∗ semVal (dcell c 1) 0 ∗ semVal (dcell c 4) 0 ∗ semVal (dcell c 7) 0 ∗ semVal (dcell c 10) 0 ∗ semVal (dcell c 2) 0 ∗ semVal (dcell c 5) 0 ∗ semVal (dcell c 8) 0 ∗ semVal (dcell c 11) 0 ∗ whole c cc0_scratch1 (GF m) ∗ pA2 m c 0 ∗ pA3 m c 0 ∗ pA2 m c 1 ∗ pA3 m c 1 ∗ pA2 m c 2 ∗ lz c 2 ∗ pA3 m c 2 ∗ lz c 4 ∗ pW1 m c 0 2 ∗ pW2 m c 0 2 ∗ pA2 m c 3 ∗ lz c 3 ∗ pA3 m c 3 ∗ lz c 5 ∗ whole c cc0_scratch0 (XF m) ∗ pW1 m c 1 3 ∗ pW2 m c 1 3 ∗ semVal (dcell c 12) 0 ∗ semVal (dcell c 15) 0 ∗ pR m c 0 ∗ semVal (dcell c 13) 0 ∗ semVal (dcell c 16) 0 ∗ whole c cc0_scratch4 (acc4 m c) ∗ pR m c 1 ∗ whole c cc0_scratch5 (D2 m c) ∗ semVal (dcell c 14) 0 ∗ pR m c 2 ∗ semVal (dcell c 17) 0) -∗ Kt c) -∗ wp frame (wpE (defs₀ (F := F)) 𝒱₀ (c : Thread nD τ) none) Set.univ
          (k0_part21 (F := F) a0M (Memref.isWhole_whole _) a1M (Memref.isWhole_whole _) a2M (Memref.isWhole_whole _) a3M (Memref.isWhole_whole _) oM (Memref.isWhole_whole _) xM (Memref.isWhole_whole _) gM (Memref.isWhole_whole _) w1M (Memref.isWhole_whole _) w2M (Memref.isWhole_whole _) accM (Memref.isWhole_whole _) sM (Memref.isWhole_whole _) rM (Memref.isWhole_whole _) cc0_scratch7 cc0_scratch8 cc0_scratch9 cc0_scratch10 cc0_scratch11 cc0_scratch12 cc0_scratch13 cc0_scratch14 cc0_scratch15 cc0_scratch16 ) Kt) := by
  rw [k0_part21_eq_skeleton]
  unfold k0_part21_skel
  simp only [semSignalWord, semWaitWord, Prog.lift, Prog.bind_op, Prog.bind_ret, Prog.pure_eq_ret, wp_bind]
  iintro ⟨#Hr, #Hl, HO, Ha0, HUX, Hz0, Ha1, HUG, Hz1, Ha2_0, HuW1_0, Hz2, Ha3_0, HuW2_0, Hz4, HTb1, HPb1, HTb2, HPb2, HCb, HAb, HTd0, HTr3, HTd6, HTr9, HA0, HC3, HA3, HA6, HC9, HA9, HTd1, HTr4, HTd7, HTr10, HA1, HC4, HA4, HA7, HC10, HA10, HTd2, HTr5, HTd8, HTr11, HA2, HC5, HA5, HA8, HC11, HA11, Ha2_1, HuW1_1, Hz3, Ha3_1, HuW2_1, Hz5, HAcc0, Ha2_2, Ha3_2, Ha2_3, Ha3_3, HS0, HTd12, HTr15, HA12, HC15, HA15, HTd13, HTr16, HA13, HC16, HA16, HTd14, HTr17, HA14, HC17, HA17⟩ Hk
  iapply (part1_spec m K c ) $$ [$Hr $Hl $Ha0 $HUX $Hz0 $Ha1 $HUG $Hz1]
  iintro ⟨HFX, HFG⟩
  iintro %v13 %v24
  try dsimp only
  iapply (part2_spec m K c _ _ _) $$ [$Hr $Hl $HO $Ha2_0 $HuW1_0 $Hz2 $Ha3_0 $HuW2_0 $Hz4 $HTb1 $HPb1 $HTb2 $HPb2 $HCb $HAb $HFX $HFG]
  iintro ⟨HO, HfW1_0_0, HfW2_0_0, HZb, HnX0, HnX1, HnX2, HnG0, HnG1, HnG2, HnR0, HnR1, HnR2, HX0, Ha0, Hz0, HG0, Ha1, Hz1⟩
  iintro %v51
  try dsimp only
  iapply (part3_spec m K c _ _ _ _) $$ [$Hr $Hl $HO $HX0 $HnX0 $HTd0 $HTr3 $HG0 $HnG0 $HTd6 $HTr9 $HA0]
  iintro ⟨HO, HC6, HX0, HZ0⟩
  try dsimp only
  iapply (part4_spec m K c _ _) $$ [$Hr $Hl $HO $HC3 $HA3 $HC6 $HA6 $HC9 $HA9]
  iintro ⟨HO, HX1, HZ3, HG0, HZ6, HG1, HZ9⟩
  iintro %v117
  try dsimp only
  iapply (part5_spec m K c _ _) $$ [$Hr $Hl $HO $HX1 $HnX1 $HTd1 $HTr4 $HG1 $HnG1 $HTd7 $HTr10 $HA1 $HC4 $HA4]
  iintro ⟨HO, HC7, HX1, HZ1, HX2, HZ4⟩
  try dsimp only
  iapply (part6_spec m K c _ _) $$ [$Hr $Hl $HO $HC7 $HA7 $HC10 $HA10]
  iintro ⟨HO, HG1, HZ7, HG2, HZ10⟩
  try dsimp only
  iapply (part7_spec m K c _) $$ [$Hr $Hl $HO $HX2 $HnX2 $HTd2 $HTr5 $HG2 $HnG2 $HTd8 $HTr11 $HA2 $HC5 $HA5 $HA8]
  iintro ⟨HO, HX2, HZ2, HX3, HZ5, HG2, HZ8⟩
  iintro %v180
  try dsimp only
  iapply (part8_spec m K c _ _) $$ [$Hr $Hl $HO $HC11 $HA11 $HX0 $HX1 $HX2 $HX3 $HG0 $HG1 $HG2]
  iintro ⟨HO, HZ11, HGW, HXW⟩
  try dsimp only
  rw [part9_eq, wp_ret]
  imodintro
  try dsimp only
  rw [part10_eq, wp_ret]
  imodintro
  try dsimp only
  iapply (part11_spec m K c ) $$ [$Hr $Hl $HO $HfW1_0_0 $HfW2_0_0 $Ha2_1 $HuW1_1 $Hz3 $Ha3_1 $HuW2_1 $Hz5]
  iintro ⟨HO, HW1_0_0, Ha2_0, Hz2, HW2_0_0, Ha3_0, Hz4, HfW1_1_1, HfW2_1_1⟩
  try dsimp only
  iapply (part12_spec m K c _) $$ [$Hr $Hl $HO $HXW $HW1_0_0 $HW2_0_0 $HAcc0 $HfW1_1_1]
  iintro ⟨HO, HXW, HW1_0_0, HW2_0_0, HAcc1, HW1_1_1, Ha2_1, Hz3⟩
  try dsimp only
  iapply (part13_spec m K c ) $$ [$Hr $Hl $HO $HfW2_1_1 $HW1_0_0 $HW2_0_0 $Ha2_2 $Hz2 $Ha3_2 $Hz4]
  iintro ⟨HO, HW2_1_1, Ha3_1, Hz5, HfW1_0_2, HfW2_0_2⟩
  try dsimp only
  iapply (part14_spec m K c ) $$ [$Hr $Hl $HO $HXW $HW1_1_1 $HW2_1_1 $HAcc1 $HfW1_0_2]
  iintro ⟨HO, HXW, HW1_1_1, HW2_1_1, HAcc2, HW1_0_2, Ha2_2, Hz2⟩
  try dsimp only
  iapply (part15_spec m K c ) $$ [$Hr $Hl $HO $HfW2_0_2 $HW1_1_1 $HW2_1_1 $Ha2_3 $Hz3 $Ha3_3 $Hz5 $HXW]
  iintro ⟨HO, HW2_0_2, Ha3_2, Hz4, HfW1_1_3, HfW2_1_3, HXW⟩
  try dsimp only
  iapply (part16_spec m K c ) $$ [$Hr $Hl $HO $HW1_0_2 $HW2_0_2 $HAcc2 $HfW1_1_3 $HfW2_1_3]
  iintro ⟨HO, HW1_0_2, HW2_0_2, HAcc3, HW1_1_3, Ha2_3, Hz3, HW2_1_3, Ha3_3, Hz5⟩
  try dsimp only
  iapply (part17_spec m K c _) $$ [$Hr $Hl $HXW $HW1_1_3 $HW2_1_3 $HAcc3]
  iintro ⟨HXW, HW1_1_3, HW2_1_3, HAcc4⟩
  iintro %v538
  try dsimp only
  iapply (part18_spec m K c _ _ _ _ _) $$ [$Hr $Hl $HO $HAcc4 $HS0 $HnR0 $HTd12 $HTr15 $HA12]
  iintro ⟨HO, HAcc4, HSD0, HZ12⟩
  try dsimp only
  iapply (part19_spec m K c _ _) $$ [$Hr $Hl $HO $HC15 $HA15 $HAcc4 $HSD0 $HnR1 $HTd13 $HTr16]
  iintro ⟨HO, HZ15, HAcc4, HR0, HC13⟩
  try dsimp only
  iapply (part20_spec m K c _ _) $$ [$Hr $Hl $HO $HC13 $HA13 $HC16 $HA16 $HAcc4]
  iintro ⟨HO, HZ13, HZ16, HAcc4, HR1, HSD2⟩
  iintro %v500
  try dsimp only
  ihave HpSD2 := (Entails.of_eq (show (whole c cc0_scratch5 (D2 m c) : sProp 𝕄) = pS c (DS m 2 c) from whole_s c _)) $$ HSD2
  ihave HO := (Entails.of_eq (show (ow c ([owR c 17]) : sProp 𝕄) = ow c (owR c 17 :: []) from rfl)) $$ HO
  iapply (send_r m K c 2 _ (dev11_eq c) 14 17 _ _ rfl rfl rfl (congrArg (fun d => pR m d 2) rfl) (amt_x (by decide)) ((amt_x (by decide)).symm.trans (amt_x (by decide))) rfl rfl ([])) $$ [$Hr $HO $HpSD2 $HnR2 $HTd14 $HTr17]
  iintro ⟨HO, HC14⟩
  iapply (got m K c 14 (whole c cc0_scratch5 (D2 m c)) (whole_s c _).symm _ rfl 7 (by decide) (rfl : sM = sM) (cred_s.trans (amt_x (by decide))) _ (lvl_nil 7)) $$ [$Hr $Hl $HO $HC14 $HA14]
  iintro ⟨HO, HSD2, HZ14⟩
  iapply (got m K c 17 (pR m c 2) rfl _ rfl 7 (by decide) (rfl : rB 2 = rB 2) ((cred_r _).trans (amt_x (by decide))) _ (lvl_nil 7)) $$ [$Hr $Hl $HO $HC17 $HA17]
  iintro ⟨HO, HR2, HZ17⟩
  rw [wp_ret]
  imodintro
  ihave Hk := Hk $$ [$HO $HZb $Ha0 $Hz0 $Ha1 $Hz1 $HZ0 $HZ3 $HZ6 $HZ9 $HZ1 $HZ4 $HZ7 $HZ10 $HZ2 $HZ5 $HZ8 $HZ11 $HGW $Ha2_0 $Ha3_0 $Ha2_1 $Ha3_1 $Ha2_2 $Hz2 $Ha3_2 $Hz4 $HW1_0_2 $HW2_0_2 $Ha2_3 $Hz3 $Ha3_3 $Hz5 $HXW $HW1_1_3 $HW2_1_3 $HZ12 $HZ15 $HR0 $HZ13 $HZ16 $HAcc4 $HR1 $HSD2 $HZ14 $HR2 $HZ17]
  iexact Hk

/-- The whole kernel on one device: its result is stored, every buffer is back and every semaphore at rest. -/
theorem body_spec (facc : Buf (Elt F) ((c : Thread nD τ).loc cc0_scratch4)) (fs : Buf (Elt F) ((c : Thread nD τ).loc cc0_scratch5)) (fo : Buf (Elt F) ((c : Thread nD τ).loc cc0_stg0_0)) {Kt : PUnit → sProp 𝕄} :
    iprop(recs m K ∗ levAts L lv ∗ ow c (oAll c) ∗ pA0 m c ∗ uX c (bk c 0) ∗ lz c 0 ∗ pA1 m c ∗ uG c (bk c 0) ∗ lz c 1 ∗ pA2 m c 0 ∗ uW1 c 0 ∗ lz c 2 ∗ pA3 m c 0 ∗ uW2 c 0 ∗ lz c 4 ∗ dutyTok ER (barCell (prv c)) 0 true ∗ (ringRd m).payload (barCell (prv c)) 0 true ∗ dutyTok ER (barCell (nxt c)) 0 false ∗ (ringRd m).payload (barCell (nxt c)) 0 false ∗ cred (tallyAt (barCell c) () 2) ∗ atPos ER (barCell c) 0 ∅ 0 ∗ dutyTok ER (dcell c 0) 0 false ∗ dutyTok ER (dcell (nxt c) 3) 0 false ∗ dutyTok ER (dcell c 6) 0 false ∗ dutyTok ER (dcell (nxt c) 9) 0 false ∗ atPos ER (dcell c 0) 0 ∅ 0 ∗ cred (tallyAt (dcell c 3) () (amtN ((3 : Fin 18).val + 1))) ∗ atPos ER (dcell c 3) 0 ∅ 0 ∗ atPos ER (dcell c 6) 0 ∅ 0 ∗ cred (tallyAt (dcell c 9) () (amtN ((9 : Fin 18).val + 1))) ∗ atPos ER (dcell c 9) 0 ∅ 0 ∗ dutyTok ER (dcell c 1) 0 false ∗ dutyTok ER (dcell (nxt c) 4) 0 false ∗ dutyTok ER (dcell c 7) 0 false ∗ dutyTok ER (dcell (nxt c) 10) 0 false ∗ atPos ER (dcell c 1) 0 ∅ 0 ∗ cred (tallyAt (dcell c 4) () (amtN ((4 : Fin 18).val + 1))) ∗ atPos ER (dcell c 4) 0 ∅ 0 ∗ atPos ER (dcell c 7) 0 ∅ 0 ∗ cred (tallyAt (dcell c 10) () (amtN ((10 : Fin 18).val + 1))) ∗ atPos ER (dcell c 10) 0 ∅ 0 ∗ dutyTok ER (dcell c 2) 0 false ∗ dutyTok ER (dcell (nxt c) 5) 0 false ∗ dutyTok ER (dcell c 8) 0 false ∗ dutyTok ER (dcell (nxt c) 11) 0 false ∗ atPos ER (dcell c 2) 0 ∅ 0 ∗ cred (tallyAt (dcell c 5) () (amtN ((5 : Fin 18).val + 1))) ∗ atPos ER (dcell c 5) 0 ∅ 0 ∗ atPos ER (dcell c 8) 0 ∅ 0 ∗ cred (tallyAt (dcell c 11) () (amtN ((11 : Fin 18).val + 1))) ∗ atPos ER (dcell c 11) 0 ∅ 0 ∗ pA2 m c 1 ∗ uW1 c 1 ∗ lz c 3 ∗ pA3 m c 1 ∗ uW2 c 1 ∗ lz c 5 ∗ whole c cc0_scratch4 facc ∗ pA2 m c 2 ∗ pA3 m c 2 ∗ pA2 m c 3 ∗ pA3 m c 3 ∗ whole c cc0_scratch5 fs ∗ dutyTok ER (dcell c 12) 0 false ∗ dutyTok ER (dcell (nxt c) 15) 0 false ∗ atPos ER (dcell c 12) 0 ∅ 0 ∗ cred (tallyAt (dcell c 15) () (amtN ((15 : Fin 18).val + 1))) ∗ atPos ER (dcell c 15) 0 ∅ 0 ∗ dutyTok ER (dcell c 13) 0 false ∗ dutyTok ER (dcell (nxt c) 16) 0 false ∗ atPos ER (dcell c 13) 0 ∅ 0 ∗ cred (tallyAt (dcell c 16) () (amtN ((16 : Fin 18).val + 1))) ∗ atPos ER (dcell c 16) 0 ∅ 0 ∗ dutyTok ER (dcell c 14) 0 false ∗ dutyTok ER (dcell (nxt c) 17) 0 false ∗ atPos ER (dcell c 14) 0 ∅ 0 ∗ cred (tallyAt (dcell c 17) () (amtN ((17 : Fin 18).val + 1))) ∗ atPos ER (dcell c 17) 0 ∅ 0 ∗ whole c cc0_stg0_0 fo)
      ⊢ iprop((iprop(ow c ([]) ∗ semVal (barCell c) 0 ∗ pA0 m c ∗ lz c 0 ∗ pA1 m c ∗ lz c 1 ∗ semVal (dcell c 0) 0 ∗ semVal (dcell c 3) 0 ∗ semVal (dcell c 6) 0 ∗ semVal (dcell c 9) 0 ∗ semVal (dcell c 1) 0 ∗ semVal (dcell c 4) 0 ∗ semVal (dcell c 7) 0 ∗ semVal (dcell c 10) 0 ∗ semVal (dcell c 2) 0 ∗ semVal (dcell c 5) 0 ∗ semVal (dcell c 8) 0 ∗ semVal (dcell c 11) 0 ∗ whole c cc0_scratch1 (GF m) ∗ pA2 m c 0 ∗ pA3 m c 0 ∗ pA2 m c 1 ∗ pA3 m c 1 ∗ pA2 m c 2 ∗ lz c 2 ∗ pA3 m c 2 ∗ lz c 4 ∗ pW1 m c 0 2 ∗ pW2 m c 0 2 ∗ pA2 m c 3 ∗ lz c 3 ∗ pA3 m c 3 ∗ lz c 5 ∗ whole c cc0_scratch0 (XF m) ∗ pW1 m c 1 3 ∗ pW2 m c 1 3 ∗ semVal (dcell c 12) 0 ∗ semVal (dcell c 15) 0 ∗ pR m c 0 ∗ semVal (dcell c 13) 0 ∗ semVal (dcell c 16) 0 ∗ pR m c 1 ∗ whole c cc0_scratch5 (D2 m c) ∗ semVal (dcell c 14) 0 ∗ semVal (dcell c 17) 0 ∗ whole c cc0_scratch4 (acc4 m c) ∗ pR m c 2 ∗ whole c cc0_stg0_0 (outF m c)) -∗ Kt ⟨⟩) -∗ wp frame (wpE (defs₀ (F := F)) 𝒱₀ (c : Thread nD τ) none) Set.univ
          (cc0_body (F := F) a0M (Memref.isWhole_whole _) a1M (Memref.isWhole_whole _) a2M (Memref.isWhole_whole _) a3M (Memref.isWhole_whole _) oM (Memref.isWhole_whole _) xM (Memref.isWhole_whole _) gM (Memref.isWhole_whole _) w1M (Memref.isWhole_whole _) w2M (Memref.isWhole_whole _) accM (Memref.isWhole_whole _) sM (Memref.isWhole_whole _) rM (Memref.isWhole_whole _) cc0_scratch7 cc0_scratch8 cc0_scratch9 cc0_scratch10 cc0_scratch11 cc0_scratch12 cc0_scratch13 cc0_scratch14 cc0_scratch15 cc0_scratch16 ) Kt) := by
  rw [cc0_body_eq_skeleton]
  unfold cc0_body_skel
  simp only [semSignalWord, semWaitWord, Prog.lift, Prog.bind_op, Prog.bind_ret, Prog.pure_eq_ret, wp_bind]
  iintro ⟨#Hr, #Hl, HO, Ha0, HUX, Hz0, Ha1, HUG, Hz1, Ha2_0, HuW1_0, Hz2, Ha3_0, HuW2_0, Hz4, HTb1, HPb1, HTb2, HPb2, HCb, HAb, HTd0, HTr3, HTd6, HTr9, HA0, HC3, HA3, HA6, HC9, HA9, HTd1, HTr4, HTd7, HTr10, HA1, HC4, HA4, HA7, HC10, HA10, HTd2, HTr5, HTd8, HTr11, HA2, HC5, HA5, HA8, HC11, HA11, Ha2_1, HuW1_1, Hz3, Ha3_1, HuW2_1, Hz5, HAcc0, Ha2_2, Ha3_2, Ha2_3, Ha3_3, HS0, HTd12, HTr15, HA12, HC15, HA15, HTd13, HTr16, HA13, HC16, HA16, HTd14, HTr17, HA14, HC17, HA17, HOut0⟩ Hk
  iapply (part21_spec m K c _ _) $$ [$Hr $Hl $HO $Ha0 $HUX $Hz0 $Ha1 $HUG $Hz1 $Ha2_0 $HuW1_0 $Hz2 $Ha3_0 $HuW2_0 $Hz4 $HTb1 $HPb1 $HTb2 $HPb2 $HCb $HAb $HTd0 $HTr3 $HTd6 $HTr9 $HA0 $HC3 $HA3 $HA6 $HC9 $HA9 $HTd1 $HTr4 $HTd7 $HTr10 $HA1 $HC4 $HA4 $HA7 $HC10 $HA10 $HTd2 $HTr5 $HTd8 $HTr11 $HA2 $HC5 $HA5 $HA8 $HC11 $HA11 $Ha2_1 $HuW1_1 $Hz3 $Ha3_1 $HuW2_1 $Hz5 $HAcc0 $Ha2_2 $Ha3_2 $Ha2_3 $Ha3_3 $HS0 $HTd12 $HTr15 $HA12 $HC15 $HA15 $HTd13 $HTr16 $HA13 $HC16 $HA16 $HTd14 $HTr17 $HA14 $HC17 $HA17]
  iintro ⟨HO, HZb, Ha0, Hz0, Ha1, Hz1, HZ0, HZ3, HZ6, HZ9, HZ1, HZ4, HZ7, HZ10, HZ2, HZ5, HZ8, HZ11, HGW, Ha2_0, Ha3_0, Ha2_1, Ha3_1, Ha2_2, Hz2, Ha3_2, Hz4, HW1_0_2, HW2_0_2, Ha2_3, Hz3, Ha3_3, Hz5, HXW, HW1_1_3, HW2_1_3, HZ12, HZ15, HR0, HZ13, HZ16, HAcc4, HR1, HSD2, HZ14, HR2, HZ17⟩
  try dsimp only
  iapply (load_band m c (bk c 0) (off6_eq c)) $$ [$HAcc4]
  iintro HAcc4
  iapply (load_r m c 2 rfl) $$ [$HR2]
  iintro HR2
  iapply (load_o c _) $$ [$HOut0]
  iintro HOut0
  iapply (store_o c _ _) $$ [$HOut0]
  iintro HOut
  ihave HOut := (Entails.of_eq (show (whole c cc0_stg0_0 (k0_pay1 (accB m c (bk c 0)) (up3 (DS m 2 (prv c)))) : sProp 𝕄) = whole c cc0_stg0_0 (outF m c) from rfl)) $$ HOut
  rw [wp_ret]
  imodintro
  ihave Hk := Hk $$ [$HO $HZb $Ha0 $Hz0 $Ha1 $Hz1 $HZ0 $HZ3 $HZ6 $HZ9 $HZ1 $HZ4 $HZ7 $HZ10 $HZ2 $HZ5 $HZ8 $HZ11 $HGW $Ha2_0 $Ha3_0 $Ha2_1 $Ha3_1 $Ha2_2 $Hz2 $Ha3_2 $Hz4 $HW1_0_2 $HW2_0_2 $Ha2_3 $Hz3 $Ha3_3 $Hz5 $HXW $HW1_1_3 $HW2_1_3 $HZ12 $HZ15 $HR0 $HZ13 $HZ16 $HR1 $HSD2 $HZ14 $HZ17 $HAcc4 $HR2 $HOut]
  iexact Hk

end Cert.Moe
-- ==== Proof.Launch.lean ====
/-
# The launch: what each device starts with and ends with, and the run of the whole program
-/
module

public import proofs.«01_k».proof.Proof.Body
public import proofs.«01_k».proof.Proof.Gen.KernelIdeal.Launch
public import proofs.«01_k».proof.Proof.Gen.KernelIdeal.Points
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the body takes and gives back -/

/-- The operands of device `c`, at their launch contents. -/
def args (c : Dev nD) : sProp 𝕄 := iprop(pA0 m c ∗ pA1 m c ∗ pA2 m c 0 ∗ pA2 m c 1 ∗ pA2 m c 2 ∗ pA2 m c 3 ∗ pA3 m c 0 ∗ pA3 m c 1 ∗ pA3 m c 2 ∗ pA3 m c 3)
/-- The scratch buffers, at some contents. -/
def scr (c : Dev nD) : sProp 𝕄 := iprop((∃ f, whole (F := F) c cc0_scratch0 f) ∗ (∃ f, whole (F := F) c cc0_scratch1 f) ∗ (∃ f, whole (F := F) c cc0_scratch2 f) ∗ (∃ f, whole (F := F) c cc0_scratch3 f) ∗ (∃ f, whole (F := F) c cc0_scratch4 f) ∗ (∃ f, whole (F := F) c cc0_scratch5 f) ∗ (∃ f, whole (F := F) c cc0_scratch6 f))
/-- Where device `c` stands in its cells. -/
def places (c : Dev nD) : sProp 𝕄 := iprop(atPos ER (barCell c) 0 ∅ 0 ∗ atPos ER (dcell c 0) 0 ∅ 0 ∗ atPos ER (dcell c 1) 0 ∅ 0 ∗ atPos ER (dcell c 2) 0 ∅ 0 ∗ atPos ER (dcell c 3) 0 ∅ 0 ∗ atPos ER (dcell c 4) 0 ∅ 0 ∗ atPos ER (dcell c 5) 0 ∅ 0 ∗ atPos ER (dcell c 6) 0 ∅ 0 ∗ atPos ER (dcell c 7) 0 ∅ 0 ∗ atPos ER (dcell c 8) 0 ∅ 0 ∗ atPos ER (dcell c 9) 0 ∅ 0 ∗ atPos ER (dcell c 10) 0 ∅ 0 ∗ atPos ER (dcell c 11) 0 ∅ 0 ∗ atPos ER (dcell c 12) 0 ∅ 0 ∗ atPos ER (dcell c 13) 0 ∅ 0 ∗ atPos ER (dcell c 14) 0 ∅ 0 ∗ atPos ER (dcell c 15) 0 ∅ 0 ∗ atPos ER (dcell c 16) 0 ∅ 0 ∗ atPos ER (dcell c 17) 0 ∅ 0)
/-- The tokens of the duties device `c` pays. -/
def payToks (c : Dev nD) : sProp 𝕄 := iprop(dutyTok ER (barCell (nxt c)) 0 false ∗ dutyTok ER (barCell (prv c)) 0 true ∗ dutyTok ER (dcell c 0) 0 false ∗ dutyTok ER (dcell c 1) 0 false ∗ dutyTok ER (dcell c 2) 0 false ∗ dutyTok ER (dcell (nxt c) 3) 0 false ∗ dutyTok ER (dcell (nxt c) 4) 0 false ∗ dutyTok ER (dcell (nxt c) 5) 0 false ∗ dutyTok ER (dcell c 6) 0 false ∗ dutyTok ER (dcell c 7) 0 false ∗ dutyTok ER (dcell c 8) 0 false ∗ dutyTok ER (dcell (nxt c) 9) 0 false ∗ dutyTok ER (dcell (nxt c) 10) 0 false ∗ dutyTok ER (dcell (nxt c) 11) 0 false ∗ dutyTok ER (dcell c 12) 0 false ∗ dutyTok ER (dcell c 13) 0 false ∗ dutyTok ER (dcell c 14) 0 false ∗ dutyTok ER (dcell (nxt c) 15) 0 false ∗ dutyTok ER (dcell (nxt c) 16) 0 false ∗ dutyTok ER (dcell (nxt c) 17) 0 false)
/-- The tokens of the duties of device `c`'s own cells. -/
def toks (c : Dev nD) : sProp 𝕄 := iprop(dutyTok ER (barCell c) 0 false ∗ dutyTok ER (barCell c) 0 true ∗ dutyTok ER (dcell c 0) 0 false ∗ dutyTok ER (dcell c 1) 0 false ∗ dutyTok ER (dcell c 2) 0 false ∗ dutyTok ER (dcell c 3) 0 false ∗ dutyTok ER (dcell c 4) 0 false ∗ dutyTok ER (dcell c 5) 0 false ∗ dutyTok ER (dcell c 6) 0 false ∗ dutyTok ER (dcell c 7) 0 false ∗ dutyTok ER (dcell c 8) 0 false ∗ dutyTok ER (dcell c 9) 0 false ∗ dutyTok ER (dcell c 10) 0 false ∗ dutyTok ER (dcell c 11) 0 false ∗ dutyTok ER (dcell c 12) 0 false ∗ dutyTok ER (dcell c 13) 0 false ∗ dutyTok ER (dcell c 14) 0 false ∗ dutyTok ER (dcell c 15) 0 false ∗ dutyTok ER (dcell c 16) 0 false ∗ dutyTok ER (dcell c 17) 0 false)
/-- The semaphores of the local copies. -/
def locals (c : Dev nD) : sProp 𝕄 := iprop(lz c 0 ∗ lz c 1 ∗ lz c 2 ∗ lz c 3 ∗ lz c 4 ∗ lz c 5)
/-- The credit others owe device `c`. -/
def credits (c : Dev nD) : sProp 𝕄 := iprop(cred (tallyAt (barCell c) () 2) ∗ cred (tallyAt (dcell c 3) () (amtN ((3 : Fin 18).val + 1))) ∗ cred (tallyAt (dcell c 4) () (amtN ((4 : Fin 18).val + 1))) ∗ cred (tallyAt (dcell c 5) () (amtN ((5 : Fin 18).val + 1))) ∗ cred (tallyAt (dcell c 9) () (amtN ((9 : Fin 18).val + 1))) ∗ cred (tallyAt (dcell c 10) () (amtN ((10 : Fin 18).val + 1))) ∗ cred (tallyAt (dcell c 11) () (amtN ((11 : Fin 18).val + 1))) ∗ cred (tallyAt (dcell c 15) () (amtN ((15 : Fin 18).val + 1))) ∗ cred (tallyAt (dcell c 16) () (amtN ((16 : Fin 18).val + 1))) ∗ cred (tallyAt (dcell c 17) () (amtN ((17 : Fin 18).val + 1))))
/-- The transfer semaphores at zero. -/
def zeros (c : Dev nD) : sProp 𝕄 := iprop(semVal (dcell c 0) 0 ∗ semVal (dcell c 1) 0 ∗ semVal (dcell c 2) 0 ∗ semVal (dcell c 3) 0 ∗ semVal (dcell c 4) 0 ∗ semVal (dcell c 5) 0 ∗ semVal (dcell c 6) 0 ∗ semVal (dcell c 7) 0 ∗ semVal (dcell c 8) 0 ∗ semVal (dcell c 9) 0 ∗ semVal (dcell c 10) 0 ∗ semVal (dcell c 11) 0 ∗ semVal (dcell c 12) 0 ∗ semVal (dcell c 13) 0 ∗ semVal (dcell c 14) 0 ∗ semVal (dcell c 15) 0 ∗ semVal (dcell c 16) 0 ∗ semVal (dcell c 17) 0)

def G' (c : Dev nD) : sProp 𝕄 := iprop(∃ K, recs m K ∗ (places c ∗ payToks c) ∗ locals c)
def start (c : Dev nD) : sProp 𝕄 := iprop(G' m c ∗ credits c ∗ levAts L lv ∗ args m c)
def Φ₀ (c : Dev nD) : sProp 𝕄 := iprop(start m c ∗ scr c)
def Φ₁ (c : Dev nD) : sProp 𝕄 := iprop(args m c ∗ scr c ∗ zeros c ∗ locals c ∗ semVal (barCell c) 0)
abbrev O₀ (c : Dev nD) : CellTallies nD τ sig Unit := ofL (oAll c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outF m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ whole c b f) := by
  unfold owns; simp only [View.read_whole, View.set_whole]

abbrev stg (c : Dev nD) (b : Ref sig .tc) (X : b.ty.Contents (Elt F)) : sProp 𝕄 :=
  iprop(∃ f : Buf (Elt F) ((c : Thread nD τ).loc b), ⌜f = X⌝ ∗ whole c b f)

def bodyPre (c : Dev nD) : sProp 𝕄 :=
  iprop(Φ₀ m c ∗ (dats m ρ 0 c).owesAt () t0_0.castSucc ∗ (∃ d, stg c cc0_stg0_0 ((dats m ρ 0 c).before (0 : Fin 1) t0_0 d)))
def bodyPost (c : Dev nD) : sProp 𝕄 :=
  iprop(Φ₁ m c ∗ (dats m ρ 0 c).owesAt () t0_0.succ ∗ stg c cc0_stg0_0 (outF m c))

theorem land_intro (c : Dev nD) : iprop(uX (F := F) c (bk c 1) ∗ uX c (bk c 2) ∗ uX c (bk c 3) ∗ uG c (bk c 1) ∗ uG c (bk c 2) ∗ uG c (bk c 3) ∗ uR c 0 ∗ uR c 1 ∗ uR c 2)
    ⊢ (ringRd m).payload (barCell (prv c)) 0 true := by
  rw [payload_bar_true, nxt_prv]
  unfold landing
  iintro ⟨H1, H2, H3, H4, H5, H6, H7, H8, H9⟩
  isplitl [H1 H2 H3]
  · iframe
  isplitl [H4 H5 H6] <;> iframe
theorem ow_intro (c : Dev nD) (l : List (GSem nD τ sig × ℕ)) (W) : (owes (c : Thread nD τ) (ofL l) W : sProp 𝕄) ⊢ ow c l := by
  unfold ow; iintro H; iexists W; iexact H

set_option maxHeartbeats 1600000 in
set_option maxRecDepth 4000 in
/-- The body between what a device starts with and what it ends with. -/
theorem body_ends (c : Dev nD) :
    bodyPre m ρ c ⊢ wp frame (wpE (defs₀ (F := F)) 𝒱₀ (c : Thread nD τ) none) Set.univ
      (cc0_body (F := F) a0M (Memref.isWhole_whole _) a1M (Memref.isWhole_whole _) a2M (Memref.isWhole_whole _) a3M (Memref.isWhole_whole _) oM (Memref.isWhole_whole _) xM (Memref.isWhole_whole _) gM (Memref.isWhole_whole _) w1M (Memref.isWhole_whole _) w2M (Memref.isWhole_whole _) accM (Memref.isWhole_whole _) sM (Memref.isWhole_whole _) rM (Memref.isWhole_whole _) cc0_scratch7 cc0_scratch8 cc0_scratch9 cc0_scratch10 cc0_scratch11 cc0_scratch12 cc0_scratch13 cc0_scratch14 cc0_scratch15 cc0_scratch16) (fun _ => bodyPost m ρ c) := by
  unfold bodyPre Φ₀ start G' Dat.owesAt Pipeline.owesWithin
  iintro ⟨⟨⟨⟨%K, #Hrec, ⟨Hat, Htok⟩, Hloc⟩, Hcr, #Hlev, Harg⟩, Hscr⟩, ⟨%W, %hW, HO⟩, ⟨%d0, %fo, %hfo, HOut0⟩⟩
  rw [show (dats m ρ 0 c).owed t0_0.castSucc = O₀ c from rfl]
  unfold places payToks locals credits args scr
  icases Hat with ⟨HAb, HA0, HA1, HA2, HA3, HA4, HA5, HA6, HA7, HA8, HA9, HA10, HA11, HA12, HA13, HA14, HA15, HA16, HA17⟩
  icases Htok with ⟨HTb2, HTb1, HTd0, HTd1, HTd2, HTr3, HTr4, HTr5, HTd6, HTd7, HTd8, HTr9, HTr10, HTr11, HTd12, HTd13, HTd14, HTr15, HTr16, HTr17⟩
  icases Hloc with ⟨Hz0, Hz1, Hz2, Hz3, Hz4, Hz5⟩
  icases Hcr with ⟨HCb, HC3, HC4, HC5, HC9, HC10, HC11, HC15, HC16, HC17⟩
  icases Harg with ⟨Ha0, Ha1, Ha2_0, Ha2_1, Ha2_2, Ha2_3, Ha3_0, Ha3_1, Ha3_2, Ha3_3⟩
  icases Hscr with ⟨⟨%f0, H0⟩, ⟨%f1, H1⟩, ⟨%f2, H2⟩, ⟨%f3, H3⟩, ⟨%facc, HAcc0⟩, ⟨%fs, HS0⟩, ⟨%f6, H6⟩⟩
  ihave H0 := (split_x c f0) $$ H0
  icases H0 with ⟨HUX, Hx1, Hx2, Hx3⟩
  ihave H1 := (split_g c f1) $$ H1
  icases H1 with ⟨HUG, Hg1, Hg2, Hg3⟩
  ihave H2 := (split_w1 c f2) $$ H2
  icases H2 with ⟨HuW1_0, HuW1_1⟩
  ihave H3 := (split_w2 c f3) $$ H3
  icases H3 with ⟨HuW2_0, HuW2_1⟩
  ihave H6 := (split_r c f6) $$ H6
  icases H6 with ⟨Hr0, Hr1, Hr2⟩
  ihave HPb1 := (land_intro m c) $$ [$Hx1 $Hx2 $Hx3 $Hg1 $Hg2 $Hg3 $Hr0 $Hr1 $Hr2]
  ihave HPb2 := (Entails.of_eq (payload_bar_false m (nxt c)).symm) $$ []
  · iempintro
  ihave Ho := (ow_intro c (oAll c) W) $$ HO
  iapply (body_spec m K c facc fs fo (Kt := fun _ => bodyPost m ρ c)) $$ [$Hrec $Hlev $Ho $Ha0 $HUX $Hz0 $Ha1 $HUG $Hz1 $Ha2_0 $HuW1_0 $Hz2 $Ha3_0 $HuW2_0 $Hz4 $HTb1 $HPb1 $HTb2 $HPb2 $HCb $HAb $HTd0 $HTr3 $HTd6 $HTr9 $HA0 $HC3 $HA3 $HA6 $HC9 $HA9 $HTd1 $HTr4 $HTd7 $HTr10 $HA1 $HC4 $HA4 $HA7 $HC10 $HA10 $HTd2 $HTr5 $HTd8 $HTr11 $HA2 $HC5 $HA5 $HA8 $HC11 $HA11 $Ha2_1 $HuW1_1 $Hz3 $Ha3_1 $HuW2_1 $Hz5 $HAcc0 $Ha2_2 $Ha3_2 $Ha2_3 $Ha3_3 $HS0 $HTd12 $HTr15 $HA12 $HC15 $HA15 $HTd13 $HTr16 $HA13 $HC16 $HA16 $HTd14 $HTr17 $HA14 $HC17 $HA17 $HOut0]
  iintro ⟨Ho, HZb, Ha0, Hz0, Ha1, Hz1, HZ0, HZ3, HZ6, HZ9, HZ1, HZ4, HZ7, HZ10, HZ2, HZ5, HZ8, HZ11, HGW, Ha2_0, Ha3_0, Ha2_1, Ha3_1, Ha2_2, Hz2, Ha3_2, Hz4, HW1_0_2, HW2_0_2, Ha2_3, Hz3, Ha3_3, Hz5, HXW, HW1_1_3, HW2_1_3, HZ12, HZ15, HR0, HZ13, HZ16, HR1, HSD2, HZ14, HZ17, HAcc4, HR2, HOut⟩
  ihave HuW1_0 := (uW1_of m c 0 2) $$ HW1_0_2
  ihave HuW2_0 := (uW2_of m c 0 2) $$ HW2_0_2
  ihave HuW1_1 := (uW1_of m c 1 3) $$ HW1_1_3
  ihave HuW2_1 := (uW2_of m c 1 3) $$ HW2_1_3
  ihave HR0 := (uR_of m c 0) $$ HR0
  ihave HR1 := (uR_of m c 1) $$ HR1
  ihave HR2 := (uR_of m c 2) $$ HR2
  ihave H2 := (join_w1 c f2) $$ [$HuW1_0 $HuW1_1]
  ihave H3 := (join_w2 c f3) $$ [$HuW2_0 $HuW2_1]
  ihave H6 := (join_r c f6) $$ [$HR0 $HR1 $HR2]
  unfold bodyPost Φ₁ Dat.owesAt Pipeline.owesWithin args scr zeros locals ow
  rw [show (dats m ρ 0 c).owed t0_0.succ = ofL [] from rfl]
  icases Ho with ⟨%W', HO⟩
  isplitr [HO HOut]
  · isplitl [Ha0 Ha1 Ha2_0 Ha2_1 Ha2_2 Ha2_3 Ha3_0 Ha3_1 Ha3_2 Ha3_3]
    · iframe
    isplitl [HXW HGW H2 H3 HAcc4 HSD2 H6]
    · isplitl [HXW]; · iexists _; iexact HXW
      isplitl [HGW]; · iexists _; iexact HGW
      isplitl [H2]; · iexact H2
      isplitl [H3]; · iexact H3
      isplitl [HAcc4]; · iexists _; iexact HAcc4
      isplitl [HSD2]; · iexists _; iexact HSD2
      iexact H6
    iframe
  isplitl [HO]
  · iexists W'
    isplitr
    · ipureintro; exact fun _ _ => Or.inl trivial
    iexact HO
  iexists _
  isplitr; · ipureintro; rfl
  iexact HOut

theorem body_at : defs₀ (F := F) Proc.tc 0 (t0_0, cfg0.slots t0_0) = cc0_body (F := F) a0M (Memref.isWhole_whole _) a1M (Memref.isWhole_whole _) a2M (Memref.isWhole_whole _) a3M (Memref.isWhole_whole _) oM (Memref.isWhole_whole _) xM (Memref.isWhole_whole _) gM (Memref.isWhole_whole _) w1M (Memref.isWhole_whole _) w2M (Memref.isWhole_whole _) accM (Memref.isWhole_whole _) sM (Memref.isWhole_whole _) rM (Memref.isWhole_whole _) cc0_scratch7 cc0_scratch8 cc0_scratch9 cc0_scratch10 cc0_scratch11 cc0_scratch12 cc0_scratch13 cc0_scratch14 cc0_scratch15 cc0_scratch16 := by
  rfl
set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  rw [show (cfg0.win (0 : Fin 1)).stage (cfg0.slots t0_0 (0 : Fin 1)) = Memref.whole cc0_stg0_0 from rfl]
  simp only [owns_whole_eq]
  rw [body_at]
  have h := body_ends m ρ c
  unfold bodyPre bodyPost at h
  rw [show (dats m ρ 0 c).Φ t0_0.castSucc = Φ₀ m c from rfl, show (dats m ρ 0 c).Φ t0_0.succ = Φ₁ m c from rfl]
  have e : (dats m ρ 0 c).after 0 t0_0 = outF m c := by unfold dats; rfl
  rw [e]
  convert h using 1

/-! ## The launch's ghost state -/

abbrev osem (j : Fin 24) : SemLoc sig := .dma ⟨j.val + 1, Nat.lt_of_lt_of_le (Nat.add_lt_add_right j.isLt 1) (by decide)⟩
theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide
theorem kcell_injective : Function.Injective (kcell : Dev nD × Option (Fin 18) → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- The duties minted: a barrier's `false` and `true`, a transfer cell's `false`. -/
def tokIx : Fin 20 → Option (Fin 18) × Bool
  | ⟨0, _⟩ => (none, false) | ⟨1, _⟩ => (none, true) | ⟨n + 2, h⟩ => (some ⟨n, Nat.lt_of_add_lt_add_right h⟩, false)
theorem tokIx_injective : Function.Injective tokIx := by decide
abbrev tokOf (cj : Dev nD × Fin 20) : GSem nD τ sig × ℕ × Bool := (kcell (cj.1, (tokIx cj.2).1), 0, (tokIx cj.2).2)
theorem tokOf_injective : Function.Injective tokOf := by
  rintro ⟨c, j⟩ ⟨c', j'⟩ h
  have h1 := kcell_injective (congrArg Prod.fst h)
  have h2 : (tokIx j).2 = (tokIx j').2 := congrArg (fun x : GSem nD τ sig × ℕ × Bool => x.2.2) h
  have h3 : c = c' := congrArg Prod.fst h1
  have h4 : (tokIx j).1 = (tokIx j').1 := congrArg Prod.snd h1
  rw [h3, tokIx_injective (Prod.ext h4 h2)]
def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, 1))

def G (c : Dev nD) : sProp 𝕄 :=
  iprop((bigSep Finset.univ fun k : Option (Fin 18) => roundState ER (ringRd m) (kcell (c, k)) 0)
    ∗ (bigSep Finset.univ fun k : Option (Fin 18) => iprop(atPos ER (kcell (c, k)) 0 ∅ 0 ∗ reached ER (kcell (c, k)) 0)) ∗ toks c)

omit [FloatOps F] in
theorem bigSep_opt (Φ : Option (Fin 18) → sProp 𝕄) : bigSep Finset.univ Φ = iprop(Φ none ∗ Φ (some 0) ∗ Φ (some 1) ∗ Φ (some 2) ∗ Φ (some 3) ∗ Φ (some 4) ∗ Φ (some 5) ∗ Φ (some 6) ∗ Φ (some 7) ∗ Φ (some 8) ∗ Φ (some 9) ∗ Φ (some 10) ∗ Φ (some 11) ∗ Φ (some 12) ∗ Φ (some 13) ∗ Φ (some 14) ∗ Φ (some 15) ∗ Φ (some 16) ∗ Φ (some 17)) :=
  bigSep_univ_eq_bigSepL [none, some 0, some 1, some 2, some 3, some 4, some 5, some 6, some 7, some 8, some 9, some 10, some 11, some 12, some 13, some 14, some 15, some 16, some 17] (by decide) (by decide) Φ
omit [FloatOps F] in
theorem bigSep_f20 (Φ : Fin 20 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Option (Fin 18) => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_f20]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal ((c : Thread nD τ), osem 0) 0 ∗ semVal ((c : Thread nD τ), osem 1) 0 ∗ semVal ((c : Thread nD τ), osem 2) 0 ∗ semVal ((c : Thread nD τ), osem 3) 0 ∗ semVal ((c : Thread nD τ), osem 4) 0 ∗ semVal ((c : Thread nD τ), osem 5) 0 ∗ semVal ((c : Thread nD τ), osem 6) 0 ∗ semVal ((c : Thread nD τ), osem 7) 0 ∗ semVal ((c : Thread nD τ), osem 8) 0 ∗ semVal ((c : Thread nD τ), osem 9) 0 ∗ semVal ((c : Thread nD τ), osem 10) 0 ∗ semVal ((c : Thread nD τ), osem 11) 0 ∗ semVal ((c : Thread nD τ), osem 12) 0 ∗ semVal ((c : Thread nD τ), osem 13) 0 ∗ semVal ((c : Thread nD τ), osem 14) 0 ∗ semVal ((c : Thread nD τ), osem 15) 0 ∗ semVal ((c : Thread nD τ), osem 16) 0 ∗ semVal ((c : Thread nD τ), osem 17) 0 ∗ semVal ((c : Thread nD τ), osem 18) 0 ∗ semVal ((c : Thread nD τ), osem 19) 0 ∗ semVal ((c : Thread nD τ), osem 20) 0 ∗ semVal ((c : Thread nD τ), osem 21) 0 ∗ semVal ((c : Thread nD τ), osem 22) 0 ∗ semVal ((c : Thread nD τ), osem 23) 0) := by
  rw [Pipeline.ownSems0_eq_of_list c osem [0, 1, 2, 3, 4, 5, 6, 7, 8, 9, 10, 11, 12, 13, 14, 15, 16, 17, 18, 19, 20, 21, 22, 23] (by decide) (by decide)]; rfl
theorem own_sems (c : Dev nD) : (Pipeline.ownSems0 (Ix := Unit) (Name := ℕ) (U := UU) (Lvl := ℕ) (Val := Elt F) (τ := τ) osem c : sProp 𝕄)
    ⊣⊢ iprop(zeros c ∗ locals c) := by
  rw [ownSems0_eq]; unfold zeros locals lz
  constructor
  · iintro ⟨HZ0, HZ1, HZ2, HZ3, HZ4, HZ5, HZ6, HZ7, HZ8, HZ9, HZ10, HZ11, HZ12, HZ13, HZ14, HZ15, HZ16, HZ17, Hz0, Hz1, Hz2, Hz3, Hz4, Hz5⟩
    isplitl [HZ0 HZ1 HZ2 HZ3 HZ4 HZ5 HZ6 HZ7 HZ8 HZ9 HZ10 HZ11 HZ12 HZ13 HZ14 HZ15 HZ16 HZ17]
    · isplitl [HZ0]; · iexact HZ0
      isplitl [HZ1]; · iexact HZ1
      isplitl [HZ2]; · iexact HZ2
      isplitl [HZ3]; · iexact HZ3
      isplitl [HZ4]; · iexact HZ4
      isplitl [HZ5]; · iexact HZ5
      isplitl [HZ6]; · iexact HZ6
      isplitl [HZ7]; · iexact HZ7
      isplitl [HZ8]; · iexact HZ8
      isplitl [HZ9]; · iexact HZ9
      isplitl [HZ10]; · iexact HZ10
      isplitl [HZ11]; · iexact HZ11
      isplitl [HZ12]; · iexact HZ12
      isplitl [HZ13]; · iexact HZ13
      isplitl [HZ14]; · iexact HZ14
      isplitl [HZ15]; · iexact HZ15
      isplitl [HZ16]; · iexact HZ16
      iexact HZ17
    isplitl [Hz0]; · iexact Hz0
    isplitl [Hz1]; · iexact Hz1
    isplitl [Hz2]; · iexact Hz2
    isplitl [Hz3]; · iexact Hz3
    isplitl [Hz4]; · iexact Hz4
    iexact Hz5
  · iintro ⟨⟨HZ0, HZ1, HZ2, HZ3, HZ4, HZ5, HZ6, HZ7, HZ8, HZ9, HZ10, HZ11, HZ12, HZ13, HZ14, HZ15, HZ16, HZ17⟩, Hz0, Hz1, Hz2, Hz3, Hz4, Hz5⟩
    isplitl [HZ0]; · iexact HZ0
    isplitl [HZ1]; · iexact HZ1
    isplitl [HZ2]; · iexact HZ2
    isplitl [HZ3]; · iexact HZ3
    isplitl [HZ4]; · iexact HZ4
    isplitl [HZ5]; · iexact HZ5
    isplitl [HZ6]; · iexact HZ6
    isplitl [HZ7]; · iexact HZ7
    isplitl [HZ8]; · iexact HZ8
    isplitl [HZ9]; · iexact HZ9
    isplitl [HZ10]; · iexact HZ10
    isplitl [HZ11]; · iexact HZ11
    isplitl [HZ12]; · iexact HZ12
    isplitl [HZ13]; · iexact HZ13
    isplitl [HZ14]; · iexact HZ14
    isplitl [HZ15]; · iexact HZ15
    isplitl [HZ16]; · iexact HZ16
    isplitl [HZ17]; · iexact HZ17
    isplitl [Hz0]; · iexact Hz0
    isplitl [Hz1]; · iexact Hz1
    isplitl [Hz2]; · iexact Hz2
    isplitl [Hz3]; · iexact Hz3
    isplitl [Hz4]; · iexact Hz4
    iexact Hz5
theorem unscopedSems0_eq (c : Dev nD) : (unscopedSems0 c : sProp 𝕄) = semVal (barCell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c ∗ locals c) := by
  unfold G
  iintro ⟨Hos, Hus, Hst, Hat, Htok⟩
  ihave Hos := (own_sems (F := F) c).1 $$ Hos
  icases Hos with ⟨Hz, Hl⟩
  ihave Hv := (show iprop(zeros c ∗ unscopedSems0 c) ⊢ (bigSep Finset.univ fun k : Option (Fin 18) => semVal (kcell (c, k)) 0 : sProp 𝕄) from by
    rw [unscopedSems0_eq, bigSep_opt]; unfold zeros
    exact sep_comm.1) $$ [$Hz $Hus]
  imod (show iprop((bigSep Finset.univ fun k : Option (Fin 18) => semVal (kcell (c, k)) 0) ∗ bigSep Finset.univ fun k : Option (Fin 18) => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hl

theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (dutyTok ER (dcell c 3) 0 false : sProp 𝕄)),
    bigSep_univ_equiv ring (fun c : Dev nD => (dutyTok ER (dcell c 4) 0 false : sProp 𝕄)),
    bigSep_univ_equiv ring (fun c : Dev nD => (dutyTok ER (dcell c 5) 0 false : sProp 𝕄)),
    bigSep_univ_equiv ring (fun c : Dev nD => (dutyTok ER (dcell c 9) 0 false : sProp 𝕄)),
    bigSep_univ_equiv ring (fun c : Dev nD => (dutyTok ER (dcell c 10) 0 false : sProp 𝕄)),
    bigSep_univ_equiv ring (fun c : Dev nD => (dutyTok ER (dcell c 11) 0 false : sProp 𝕄)),
    bigSep_univ_equiv ring (fun c : Dev nD => (dutyTok ER (dcell c 15) 0 false : sProp 𝕄)),
    bigSep_univ_equiv ring (fun c : Dev nD => (dutyTok ER (dcell c 16) 0 false : sProp 𝕄)),
    bigSep_univ_equiv ring (fun c : Dev nD => (dutyTok ER (dcell c 17) 0 false : sProp 𝕄))]
  exact Entails.rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem places_intro (c : Dev nD) : (bigSep Finset.univ fun k : Option (Fin 18) => (atPos ER (kcell (c, k)) 0 ∅ 0 : sProp 𝕄)) ⊢ places c := by
  unfold places; rw [bigSep_opt]

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c ∗ locals c) : sProp 𝕄)
      ⊢ bigSep Finset.univ (G' m) := by
  rw [bigSep_sep', bigSep_sep', bigSep_sep', ← bigSep_univ_prod (fun ck : Dev nD × Option (Fin 18) => iprop(∃ κ : ℕ, cellInv ER (ringRd m) κ (kcell ck))),
    bigSep_congr (s := Finset.univ) (fun (c : Dev nD) _ => bigSep_sep' Finset.univ (fun k : Option (Fin 18) => (atPos ER (kcell (c, k)) 0 ∅ 0 : sProp 𝕄)) (fun k => reached ER (kcell (c, k)) 0)),
    bigSep_sep', ← bigSep_univ_prod (fun ck : Dev nD × Option (Fin 18) => (reached ER (kcell ck) 0 : sProp 𝕄))]
  iintro ⟨HI, ⟨Hat, #HR⟩, Htok, Hl⟩
  ihave HK := (BI.bigSep_exists_pi Finset.univ (fun (ck : Dev nD × Option (Fin 18)) (κ : ℕ) => (cellInv ER (ringRd m) κ (kcell ck) : sProp 𝕄))) $$ HI
  icases HK with ⟨%K, #HI⟩
  ihave Htk := (toks_around (F := F)) $$ Htok
  iapply (bigSep_with_persistent (R := recs m K) (Φ := fun c => iprop((places c ∗ payToks c) ∗ locals c)) fun c _ => show _ ⊢ G' m c from by
    unfold G'; iintro H; iexists K; iexact H)
  isplitr
  · unfold recs; isplitl; · iexact HI
    iexact HR
  · rw [bigSep_sep', bigSep_sep']
    isplitr [Hl]
    · isplitl [Hat]
      · iapply (show (bigSep Finset.univ fun c : Dev nD => bigSep Finset.univ fun k : Option (Fin 18) => (atPos ER (kcell (c, k)) 0 ∅ 0 : sProp 𝕄)) ⊢ bigSep Finset.univ places from
          bigSep_mono fun c _ => places_intro c) $$ Hat
      iexact Htk
    iexact Hl

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

/-- What device `d` owes, by the cells' numbers. -/
def oIx (d : Dev nD) : List ((Dev nD × Option (Fin 18)) × ℕ) :=
  [((prv d, none), 1), ((nxt d, none), 1), ((nxt d, some 3), amtN ((3 : Fin 18).val + 1)), ((nxt d, some 9), amtN ((9 : Fin 18).val + 1)), ((nxt d, some 4), amtN ((4 : Fin 18).val + 1)), ((nxt d, some 10), amtN ((10 : Fin 18).val + 1)), ((nxt d, some 5), amtN ((5 : Fin 18).val + 1)), ((nxt d, some 11), amtN ((11 : Fin 18).val + 1)), ((nxt d, some 15), amtN ((15 : Fin 18).val + 1)), ((nxt d, some 16), amtN ((16 : Fin 18).val + 1)), ((nxt d, some 17), amtN ((17 : Fin 18).val + 1))]
theorem ofL_ix (l : List ((Dev nD × Option (Fin 18)) × ℕ)) (p : Dev nD × Option (Fin 18)) :
    ofL (l.map fun q => (kcell q.1, q.2)) (kcell p) () = (l.map fun q => if p = q.1 then q.2 else 0).sum := by
  induction l with
  | nil => rfl
  | cons q l ih =>
    rw [List.map_cons, List.map_cons, List.sum_cons, ← ih]
    show (ofL (l.map fun q => (kcell q.1, q.2)) + tallyAt (kcell q.1) () q.2) (kcell p) () = _
    rw [Pi.add_apply, Finsupp.add_apply, tallyAt_apply, add_comm]
    by_cases h : p = q.1
    · rw [if_pos h, if_pos ⟨by rw [h], rfl⟩]
    · rw [if_neg h, if_neg fun h' => h (kcell_injective h'.1)]
theorem owed_eq (d : Dev nD) (p : Dev nD × Option (Fin 18)) : O₀ d (kcell p) () = ((oIx d).map fun q => if p = q.1 then q.2 else 0).sum := ofL_ix (oIx d) p

theorem sum_nxt (c : Dev nD) (n : ℕ) : (∑ d : Dev nD, if c = nxt d then n else 0) = n := by
  rw [Finset.sum_congr rfl fun d _ => if_congr (show c = nxt d ↔ d = prv c from ⟨fun h => by rw [h, prv_nxt], fun h => by rw [h, nxt_prv]⟩) rfl rfl,
    Finset.sum_ite_eq' Finset.univ (prv c) fun _ => n, if_pos (Finset.mem_univ _)]
theorem sum_prv (c : Dev nD) (n : ℕ) : (∑ d : Dev nD, if c = prv d then n else 0) = n := by
  rw [Finset.sum_congr rfl fun d _ => if_congr (show c = prv d ↔ d = nxt c from ⟨fun h => by rw [h, nxt_prv], fun h => by rw [h, prv_nxt]⟩) rfl rfl,
    Finset.sum_ite_eq' Finset.univ (nxt c) fun _ => n, if_pos (Finset.mem_univ _)]

theorem launch_at (p : Dev nD × Option (Fin 18)) (n : ℕ) (h : (∑ d : Dev nD, O₀ d (kcell p) ()) = n) :
    tallyOn (kcell p) (launchCredit (Pipeline.owing O₀) 0 (kcell p)) = (tallyAt (kcell p) () n : CellTallies nD τ sig Unit) := by
  unfold tallyAt; refine congrArg _ (Finsupp.ext fun u => ?_); cases u
  rw [Pipeline.launchCredit_owing, Finsupp.single_eq_same, h]

theorem due_bar (c : Dev nD) : (∑ d : Dev nD, O₀ d (kcell (c, none)) ()) = 2 := by
  simp only [owed_eq, oIx, List.map_cons, List.map_nil, List.sum_cons, List.sum_nil, Prod.mk.injEq, reduceCtorEq, and_false, and_true, if_false, add_zero,
    Finset.sum_add_distrib, sum_nxt, sum_prv]

theorem due_3 (c : Dev nD) : (∑ d : Dev nD, O₀ d (kcell (c, some 3)) ()) = amtN ((3 : Fin 18).val + 1) := by
  simp only [owed_eq, oIx, List.map_cons, List.map_nil, List.sum_cons, List.sum_nil, Prod.mk.injEq, reduceCtorEq, Option.some.injEq, Fin.reduceEq, and_false, and_true, if_false, add_zero, zero_add,
    sum_nxt]
theorem due_4 (c : Dev nD) : (∑ d : Dev nD, O₀ d (kcell (c, some 4)) ()) = amtN ((4 : Fin 18).val + 1) := by
  simp only [owed_eq, oIx, List.map_cons, List.map_nil, List.sum_cons, List.sum_nil, Prod.mk.injEq, reduceCtorEq, Option.some.injEq, Fin.reduceEq, and_false, and_true, if_false, add_zero, zero_add,
    sum_nxt]
theorem due_5 (c : Dev nD) : (∑ d : Dev nD, O₀ d (kcell (c, some 5)) ()) = amtN ((5 : Fin 18).val + 1) := by
  simp only [owed_eq, oIx, List.map_cons, List.map_nil, List.sum_cons, List.sum_nil, Prod.mk.injEq, reduceCtorEq, Option.some.injEq, Fin.reduceEq, and_false, and_true, if_false, add_zero, zero_add,
    sum_nxt]
theorem due_9 (c : Dev nD) : (∑ d : Dev nD, O₀ d (kcell (c, some 9)) ()) = amtN ((9 : Fin 18).val + 1) := by
  simp only [owed_eq, oIx, List.map_cons, List.map_nil, List.sum_cons, List.sum_nil, Prod.mk.injEq, reduceCtorEq, Option.some.injEq, Fin.reduceEq, and_false, and_true, if_false, add_zero, zero_add,
    sum_nxt]
theorem due_10 (c : Dev nD) : (∑ d : Dev nD, O₀ d (kcell (c, some 10)) ()) = amtN ((10 : Fin 18).val + 1) := by
  simp only [owed_eq, oIx, List.map_cons, List.map_nil, List.sum_cons, List.sum_nil, Prod.mk.injEq, reduceCtorEq, Option.some.injEq, Fin.reduceEq, and_false, and_true, if_false, add_zero, zero_add,
    sum_nxt]
theorem due_11 (c : Dev nD) : (∑ d : Dev nD, O₀ d (kcell (c, some 11)) ()) = amtN ((11 : Fin 18).val + 1) := by
  simp only [owed_eq, oIx, List.map_cons, List.map_nil, List.sum_cons, List.sum_nil, Prod.mk.injEq, reduceCtorEq, Option.some.injEq, Fin.reduceEq, and_false, and_true, if_false, add_zero, zero_add,
    sum_nxt]
theorem due_15 (c : Dev nD) : (∑ d : Dev nD, O₀ d (kcell (c, some 15)) ()) = amtN ((15 : Fin 18).val + 1) := by
  simp only [owed_eq, oIx, List.map_cons, List.map_nil, List.sum_cons, List.sum_nil, Prod.mk.injEq, reduceCtorEq, Option.some.injEq, Fin.reduceEq, and_false, and_true, if_false, add_zero, zero_add,
    sum_nxt]
theorem due_16 (c : Dev nD) : (∑ d : Dev nD, O₀ d (kcell (c, some 16)) ()) = amtN ((16 : Fin 18).val + 1) := by
  simp only [owed_eq, oIx, List.map_cons, List.map_nil, List.sum_cons, List.sum_nil, Prod.mk.injEq, reduceCtorEq, Option.some.injEq, Fin.reduceEq, and_false, and_true, if_false, add_zero, zero_add,
    sum_nxt]
theorem due_17 (c : Dev nD) : (∑ d : Dev nD, O₀ d (kcell (c, some 17)) ()) = amtN ((17 : Fin 18).val + 1) := by
  simp only [owed_eq, oIx, List.map_cons, List.map_nil, List.sum_cons, List.sum_nil, Prod.mk.injEq, reduceCtorEq, Option.some.injEq, Fin.reduceEq, and_false, and_true, if_false, add_zero, zero_add,
    sum_nxt]

theorem creds (c : Dev nD) : (Pipeline.launchCred O₀ c : sProp 𝕄) ⊢ credits c := by
  unfold Pipeline.launchCred
  refine (bigSep_subset (Finset.subset_univ (Finset.univ.map ⟨csem, csem_injective⟩))).trans ?_
  rw [bigSep_map, bigSep_opt]
  show iprop(cred (tallyOn (kcell (c, none)) (launchCredit (Pipeline.owing O₀) 0 (kcell (c, none)))) ∗ cred (tallyOn (kcell (c, some 0)) (launchCredit (Pipeline.owing O₀) 0 (kcell (c, some 0)))) ∗ cred (tallyOn (kcell (c, some 1)) (launchCredit (Pipeline.owing O₀) 0 (kcell (c, some 1)))) ∗ cred (tallyOn (kcell (c, some 2)) (launchCredit (Pipeline.owing O₀) 0 (kcell (c, some 2)))) ∗ cred (tallyOn (kcell (c, some 3)) (launchCredit (Pipeline.owing O₀) 0 (kcell (c, some 3)))) ∗ cred (tallyOn (kcell (c, some 4)) (launchCredit (Pipeline.owing O₀) 0 (kcell (c, some 4)))) ∗ cred (tallyOn (kcell (c, some 5)) (launchCredit (Pipeline.owing O₀) 0 (kcell (c, some 5)))) ∗ cred (tallyOn (kcell (c, some 6)) (launchCredit (Pipeline.owing O₀) 0 (kcell (c, some 6)))) ∗ cred (tallyOn (kcell (c, some 7)) (launchCredit (Pipeline.owing O₀) 0 (kcell (c, some 7)))) ∗ cred (tallyOn (kcell (c, some 8)) (launchCredit (Pipeline.owing O₀) 0 (kcell (c, some 8)))) ∗ cred (tallyOn (kcell (c, some 9)) (launchCredit (Pipeline.owing O₀) 0 (kcell (c, some 9)))) ∗ cred (tallyOn (kcell (c, some 10)) (launchCredit (Pipeline.owing O₀) 0 (kcell (c, some 10)))) ∗ cred (tallyOn (kcell (c, some 11)) (launchCredit (Pipeline.owing O₀) 0 (kcell (c, some 11)))) ∗ cred (tallyOn (kcell (c, some 12)) (launchCredit (Pipeline.owing O₀) 0 (kcell (c, some 12)))) ∗ cred (tallyOn (kcell (c, some 13)) (launchCredit (Pipeline.owing O₀) 0 (kcell (c, some 13)))) ∗ cred (tallyOn (kcell (c, some 14)) (launchCredit (Pipeline.owing O₀) 0 (kcell (c, some 14)))) ∗ cred (tallyOn (kcell (c, some 15)) (launchCredit (Pipeline.owing O₀) 0 (kcell (c, some 15)))) ∗ cred (tallyOn (kcell (c, some 16)) (launchCredit (Pipeline.owing O₀) 0 (kcell (c, some 16)))) ∗ cred (tallyOn (kcell (c, some 17)) (launchCredit (Pipeline.owing O₀) 0 (kcell (c, some 17))))) ⊢ _
  rw [launch_at (c, none) _ (due_bar c), launch_at (c, some 3) _ (due_3 c), launch_at (c, some 4) _ (due_4 c), launch_at (c, some 5) _ (due_5 c), launch_at (c, some 9) _ (due_9 c), launch_at (c, some 10) _ (due_10 c), launch_at (c, some 11) _ (due_11 c), launch_at (c, some 15) _ (due_15 c), launch_at (c, some 16) _ (due_16 c), launch_at (c, some 17) _ (due_17 c)]
  unfold credits
  iintro ⟨HCb, -, -, -, HC3, HC4, HC5, -, -, -, HC9, HC10, HC11, -, -, -, HC15, HC16, HC17⟩
  iframe

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [show (Pipeline.unscopedRestP Pipeline.Prefetch.none cfg0.spec c (fun b => m ((c : Thread nD τ).loc b)) : sProp 𝕄)
      = iprop(whole c main_arg0 (arg0 m c) ∗ whole c main_arg1 (arg1 m c) ∗ whole c main_arg2 (arg2 m c) ∗ whole c main_arg3 (arg3 m c)) from
    Pipeline.unscopedRestP_eq_of_list (win := cfg0.spec) (c := c) Pipeline.Prefetch.none (fun b => m ((c : Thread nD τ).loc b)) [main_arg0, main_arg1, main_arg2, main_arg3] (by decide) (by decide),
    whole_a0, whole_a1, cut_a2, cut_a3]
  iintro ⟨⟨Ha0, Ha1, ⟨Ha2_0, Ha2_1, Ha2_2, Ha2_3⟩, ⟨Ha3_0, Ha3_1, Ha3_2, Ha3_3⟩⟩, Hlev, Hcr, -, HG⟩
  ihave Hc := (creds (F := F) c) $$ Hcr
  imodintro
  unfold start args
  isplitl
  · isplitl [HG]; · iexact HG
    isplitl [Hc]; · iexact Hc
    isplitl [Hlev]; · iexact Hlev
    iframe
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

/-- What is kept for reading the end state: the operands whole, and the barrier's semaphore. -/
def Yf (c : Dev nD) : sProp 𝕄 :=
  iprop((whole c main_arg0 (arg0 m c) ∗ whole c main_arg1 (arg1 m c) ∗ whole c main_arg2 (arg2 m c) ∗ whole c main_arg3 (arg3 m c)) ∗ unscopedSems0 c)

theorem phi1_exit (c : Dev nD) :
    (dats m ρ 0 c).Φ (Fin.last cfg0.N) ⊢ iprop(Yf m c ∗ Pipeline.ownSems0 osem c ∗ Pipeline.scopedRest cfg0.spec c) := by
  rw [show (dats m ρ 0 c).Φ (Fin.last cfg0.N) = Φ₁ m c from rfl, scopedRest0_eq]
  unfold Φ₁ Yf args scr
  rw [unscopedSems0_eq, whole_a0, whole_a1, cut_a2, cut_a3]
  iintro ⟨⟨Ha0, Ha1, Ha2_0, Ha2_1, Ha2_2, Ha2_3, Ha3_0, Ha3_1, Ha3_2, Ha3_3⟩, Hscr, Hz, Hl, HzB⟩
  isplitl [HzB Ha0 Ha1 Ha2_0 Ha2_1 Ha2_2 Ha2_3 Ha3_0 Ha3_1 Ha3_2 Ha3_3]
  · iframe
  isplitl [Hz Hl]
  · iapply (own_sems (F := F) c).2
    isplitl [Hz] <;> iassumption
  iexact Hscr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of c _ (oAll c) 0 (by fin_cases w; fin_cases s; show lvN 0 ≤ 0; decide) (lvl_All c)
    · exact mayWait_of c _ [] 0 (by fin_cases w; fin_cases s; show lvN 0 ≤ 0; decide) (lvl_nil 0)

/-! ## The run -/

def finalA (c : Dev nD) (w : Fin cfg0.W) : Buf (Elt F) ((cfg0.win w).arr.view.loc (c : Thread nD τ)) := (dats m ρ 0 c).arrAt w cfg0.N

def argsKept (c : Dev nD) (s : MemSt nD τ sig (Elt F)) : Prop :=
  s.mem ((c : Thread nD τ).loc main_arg0) = arg0 m c ∧ s.mem ((c : Thread nD τ).loc main_arg1) = arg1 m c
    ∧ s.mem ((c : Thread nD τ).loc main_arg2) = arg2 m c ∧ s.mem ((c : Thread nD τ).loc main_arg3) = arg3 m c

def QC : PUnit × MemSt nD τ sig (Elt F) → Prop := fun r =>
  ∀ c : Dev nD, (∀ w : Fin cfg0.W, r.2.mem ((cfg0.win w).arr.view.loc (c : Thread nD τ)) = finalA m ρ c w) ∧ argsKept m c r.2

set_option maxRecDepth 8000 in
/-- Every weakly fair execution of the program on four devices ends, with each device's result array at the computed
    contents, the operands unchanged and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod ((show BI.own (embR (initOf ringCells ringToks, (1 : Counters))) ⊢ _ from fund_ring m)) $$ HX with HG
      imodintro
      isplitl [HP] <;> iassumption)
    (hglob := glob m)
    (hA := fun _ _ => rfl) (hpf := fun _ k => k.elim0)
    (X := start m) (Y := Yf m) (Z := fun _ => iprop(emp))
    (hX := start_intro m ρ) (hin := phi0_intro m ρ) (hout := phi1_exit m ρ)
    (QY := fun c s => argsKept m c s ∧ ∀ sm : SemLoc sig, sm.isScoped .tc = false → s.sem ((c.tc : Thread nD τ), sm) = 0)
    (hY := fun c s' => by
      unfold Yf
      iintro ⟨⟨⟨H0, H1, H2, H3⟩, Hu⟩, -, HSI⟩
      icombine HSI H0 gives %h0
      icombine HSI H1 gives %h1
      icombine HSI H2 gives %h2
      icombine HSI H3 gives %h3
      imod (Pipeline.unscopedSems0_read (X := unscopedSems0 c) (c := c) fupd_intro s') $$ [Hu HSI] with ⟨%hs, HSI⟩
      · isplitl [Hu] <;> iassumption
      imodintro
      isplitr
      · ipureintro
        exact ⟨⟨Buf.eq_of_forall_mem_univ h0, Buf.eq_of_forall_mem_univ h1, Buf.eq_of_forall_mem_univ h2, Buf.eq_of_forall_mem_univ h3⟩, hs⟩
      iexact HSI)
    (hQ := fun _ h hs => ⟨fun c => ⟨(h c).1, (h c).2.2.1⟩, sem_eq_zero hs fun c => (h c).2.2.2⟩)

end Cert.Moe

end
-- ==== Proof.Frames.lean ====
/-
# The programs run, keep their arguments and leave every counter at zero
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Moe

open Idealize.ShloMosaic Idealize.ShloMosaic.TcCoe Idealize.SL.Sem

theorem defs₀_same : Cert.Kernel.defs₀ (F := Bits) = Cert.KernelIdeal.defs₀ (F := Bits) := by
  unfold Cert.Kernel.defs₀ Cert.KernelIdeal.defs₀
  refine congrArg Defs.onTc ?_
  funext l x
  obtain ⟨n, h⟩ := l
  cases n with
  | zero => rfl
  | succ n => exact absurd h (Nat.not_lt.2 (Nat.le_add_left _ _))
/-- The two programs' texts are one. -/
theorem defs_same : Cert.Kernel.defs (F := Bits) = Cert.KernelIdeal.defs (F := Bits) := congrArg (Pipeline.defs _) defs₀_same

/-- The ideal kernel's frame: its run, read at the arguments. -/
theorem frame_ideal : Cert.quiescent_KernelIdeal := fun m ρ _ =>
  (θ_run Cert.KernelIdeal.defs _ _).mono (fun _ h => ⟨fun c => (h.1 c).2, h.2⟩) (run_main (F := Ideal) m ρ)

/-- The kernel's frame: the same text, so the same run at the machine's floats. -/
theorem frame_kernel : Cert.quiescent_Kernel := fun m ρ _ => by
  rw [defs_same]
  exact (θ_run Cert.KernelIdeal.defs _ _).mono (fun _ h => ⟨fun c => (h.1 c).2, h.2⟩) (run_main (F := Bits) m ρ)

/-- The reference's frame: its operations write no argument, and it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Moe

end
-- ==== Proof.Choice.lean ====
/-
# The two experts a row of gates chooses

A row of sixteen gates chooses the first position of its greatest value, and then the first position of the greatest
value among the others. `Pick` states that. The top two of a stable sort are such a pair, and so is what two rounds of
"maximum, first position equal to it, that position overwritten" compute; a row has only one such pair.
-/
module

public import Idealize.ShloMosaic.Lib.SortFacts
public import Idealize.ShloMosaic.Lib.SortPrefix
public import Idealize.ShloMosaic.Lib.Pointwise

@[expose] public section

noncomputable section

namespace Cert.Moe

open Idealize.ShloMosaic

/-- `a` is the first position of the greatest gate, `b` the first position of the greatest of the others. -/
structure Pick (g : Fin 16 → EReal) (a b : Fin 16) : Prop where
  ne : b ≠ a
  top : ∀ e, g e ≤ g a
  top_first : ∀ e, g e = g a → a ≤ e
  snd : ∀ e, e ≠ a → g e ≤ g b
  snd_first : ∀ e, e ≠ a → g e = g b → b ≤ e

/-! ## By a stable sort -/

/-- "Sorts before" by the gates alone, as the sort's comparator reads it. -/
def before (g : Fin 16 → EReal) (k k' : Fin 16) : Bool := FloatOps.cmpfTotal (F := Ideal) (φ := .f32) .gt (g k) (g k') == 1#1
/-- The same with ties broken by the position. -/
def beforeT (g : Fin 16 → EReal) (k k' : Fin 16) : Bool := decide (g k' < g k) || (decide (g k = g k') && decide (k < k'))

theorem before_eq (g : Fin 16 → EReal) (k k' : Fin 16) : before g k k' = decide (g k' < g k) := by
  show (BitVec.ofBool (decide (g k' < g k)) == 1#1) = _
  by_cases h : g k' < g k <;> simp [h]

/-- Sorting positions listed in order, stably, by the gates is sorting them by the gates and then the position. -/
theorem stableSort_before (g : Fin 16 → EReal) (l : List (Fin 16)) (hl : l.Pairwise (· < ·)) :
    stableSort (before g) l = stableSort (beforeT g) l := by
  induction l with
  | nil => rfl
  | cons a l ih =>
    obtain ⟨ha, hl'⟩ := List.pairwise_cons.mp hl
    unfold stableSort
    rw [ih hl']
    refine insertBefore_congr _ _ a _ fun b hb => ?_
    have hb' := ha b ((perm_stableSort _ l).mem_iff.mp hb)
    rw [before_eq, beforeT, decide_eq_false (show ¬ b < a from not_lt.mpr hb'.le), Bool.and_false, Bool.or_false]

theorem beforeT_strict (g : Fin 16 → EReal) : StrictTotalBefore (beforeT g) := by
  classical
  refine StrictTotalBefore.of_key_then_position (fun a b : EReal => decide (b < a)) g ?_ ?_ ?_
  · intro a; simp
  · intro a b c h h'; simp only [decide_eq_true_eq] at *; exact lt_trans h' h
  · intro a b; simp only [decide_eq_true_eq]; rcases lt_trichotomy a b with h | h | h
    · exact Or.inr (Or.inr h)
    · exact Or.inr (Or.inl h)
    · exact Or.inl h

/-- The position the sort puts at place `k`. -/
def place (g : Fin 16 → EReal) (k : Fin 16) : Fin 16 := sortedFrom (before g) k
def top1 (g : Fin 16 → EReal) : Fin 16 := place g 0
def top2 (g : Fin 16 → EReal) : Fin 16 := place g 1

theorem get_cast_congr {l l' : List (Fin 16)} (h : l = l') (hl : 16 = l.length) (hl' : 16 = l'.length) (k : Fin 16) :
    l.get (k.cast hl) = l'.get (k.cast hl') := by subst h; rfl

theorem place_eq (g : Fin 16 → EReal) : place g = sortedFrom (beforeT g) := by
  funext k
  unfold place sortedFrom
  have h : sortPositions 16 (before g) = sortPositions 16 (beforeT g) :=
    stableSort_before g _ (List.pairwise_lt_finRange 16)
  exact get_cast_congr h _ _ k

theorem pick_tops (g : Fin 16 → EReal) : Pick g (top1 g) (top2 g) := by
  have hB := beforeT_strict g
  have hs : Function.Surjective (place g) := by rw [place_eq]; exact sortedFrom_surjective _
  have hi : Function.Injective (place g) := by rw [place_eq]; exact sortedFrom_injective _
  have ho : ∀ i j : Fin 16, i < j → beforeT g (place g j) (place g i) = false := by
    rw [place_eq]
    exact sortedFrom_noInversion _ _ hB.asymm (fun _ _ h => h) hB.negTrans
  have h0 : ∀ e, e ≠ top1 g → beforeT g e (top1 g) = false := by
    intro e he
    obtain ⟨j, rfl⟩ := hs e
    refine ho 0 j (Fin.pos_of_ne_zero fun h => he (by rw [h]; rfl))
  have h1 : ∀ e, e ≠ top1 g → e ≠ top2 g → beforeT g e (top2 g) = false := by
    intro e he he'
    obtain ⟨j, rfl⟩ := hs e
    have hj0 : j ≠ 0 := fun h => he (by rw [h]; rfl)
    have hj1 : j ≠ 1 := fun h => he' (by rw [h]; rfl)
    exact ho 1 j (by omega)
  have rd : ∀ a b, beforeT g a b = false → g a ≤ g b ∧ (g a = g b → b ≤ a) := by
    intro a b h
    simp only [beforeT, Bool.or_eq_false_iff, Bool.and_eq_false_iff, decide_eq_false_iff_not, not_lt] at h
    exact ⟨h.1, fun e => h.2.resolve_left fun h' => h' e⟩
  refine ⟨fun h => absurd (hi h) (by decide), ?_, ?_, ?_, ?_⟩
  · intro e; by_cases he : e = top1 g
    · rw [he]
    · exact (rd _ _ (h0 e he)).1
  · intro e h; by_cases he : e = top1 g
    · rw [he]
    · exact (rd _ _ (h0 e he)).2 h
  · intro e hn; by_cases he : e = top2 g
    · rw [he]
    · exact (rd _ _ (h1 e hn he)).1
  · intro e hn h; by_cases he : e = top2 g
    · rw [he]
    · exact (rd _ _ (h1 e hn he)).2 h

/-! ## By two rounds of maximum and first position -/

theorem minsi_cases (x y : BitVec 32) : IntOp.minsi x y = x ∨ IntOp.minsi x y = y := by
  unfold IntOp.minsi; split <;> simp
theorem minsi_le_left (x y : BitVec 32) : (IntOp.minsi x y).toInt ≤ x.toInt := by
  unfold IntOp.minsi; split
  · exact le_refl _
  · rename_i h; simp only [BitVec.slt, BitVec.sle, decide_eq_true_eq] at h; omega
theorem minsi_le_right (x y : BitVec 32) : (IntOp.minsi x y).toInt ≤ y.toInt := by
  unfold IntOp.minsi; split
  · rename_i h; simp only [BitVec.slt, BitVec.sle, decide_eq_true_eq] at h; omega
  · exact le_refl _

/-- A signed minimum over a finite set is one of the words, or the initial one … -/
theorem fold_minsi_mem {ι : Type} [DecidableEq ι] (b : BitVec 32) (f : ι → BitVec 32) (S : Finset ι) :
    S.fold IntOp.minsi b f = b ∨ ∃ e ∈ S, S.fold IntOp.minsi b f = f e := by
  induction S using Finset.induction_on with
  | empty => exact Or.inl rfl
  | insert a S ha ih =>
    rw [Finset.fold_insert ha]
    rcases minsi_cases (f a) (S.fold IntOp.minsi b f) with h | h
    · exact Or.inr ⟨a, Finset.mem_insert_self _ _, h⟩
    · rw [h]
      rcases ih with h' | ⟨e, he, h'⟩
      · exact Or.inl h'
      · exact Or.inr ⟨e, Finset.mem_insert_of_mem he, h'⟩

/-- … and at most each of them. -/
theorem fold_minsi_le {ι : Type} [DecidableEq ι] (b : BitVec 32) (f : ι → BitVec 32) (S : Finset ι) (e : ι) (he : e ∈ S) :
    (S.fold IntOp.minsi b f).toInt ≤ (f e).toInt := by
  induction S using Finset.induction_on with
  | empty => exact absurd he (Finset.notMem_empty _)
  | insert a S ha ih =>
    rw [Finset.fold_insert ha]
    rcases Finset.mem_insert.mp he with rfl | h
    · exact minsi_le_left _ _
    · exact (minsi_le_right _ _).trans (ih h)

theorem toInt_small (n : ℕ) (h : n < 2 ^ 31) : (BitVec.ofNat 32 n).toInt = n := by
  rw [BitVec.toInt_eq_toNat_of_lt (by rw [BitVec.toNat_ofNat]; omega), BitVec.toNat_ofNat]; omega

theorem ofNat_inj (n k : ℕ) (hn : n < 2 ^ 32) (hk : k < 2 ^ 32) : BitVec.ofNat 32 n = BitVec.ofNat 32 k ↔ n = k := by
  constructor
  · intro h
    have := congrArg BitVec.toNat h
    rwa [BitVec.toNat_ofNat, BitVec.toNat_ofNat, Nat.mod_eq_of_lt hn, Nat.mod_eq_of_lt hk] at this
  · rintro rfl; rfl

theorem cmpi_eq_word (n k : ℕ) (hn : n < 2 ^ 32) (hk : k < 2 ^ 32) :
    IntOp.cmpi .eq (BitVec.ofNat 32 n) (BitVec.ofNat 32 k) = BitVec.ofBool (decide (n = k)) := by
  show BitVec.ofBool (_ == _) = _
  refine congrArg BitVec.ofBool (Bool.eq_iff_iff.mpr ?_)
  rw [beq_iff_eq, decide_eq_true_iff]
  exact ofNat_inj n k hn hk
theorem cmpi_sle_word (n k : ℕ) (hn : n < 2 ^ 31) (hk : k < 2 ^ 31) :
    IntOp.cmpi .sle (BitVec.ofNat 32 n) (BitVec.ofNat 32 k) = BitVec.ofBool (decide (n ≤ k)) := by
  show BitVec.ofBool (BitVec.sle _ _) = _
  refine congrArg BitVec.ofBool (Bool.eq_iff_iff.mpr ?_)
  rw [BitVec.sle_iff_toInt_le, decide_eq_true_iff, toInt_small n hn, toInt_small k hk]
  exact Int.ofNat_le

theorem ofBool_one (p : Prop) [Decidable p] : BitVec.ofBool (decide p) = 1#1 ↔ p := by
  by_cases h : p <;> simp [h]
theorem andi_one {x y : BitVec 1} (h : IntOp.andi x y = 1#1) : x = 1#1 ∧ y = 1#1 := by
  revert x y; decide
theorem ori_one {x y : BitVec 1} (h : IntOp.ori x y = 1#1) : x = 1#1 ∨ y = 1#1 := by
  revert x y; decide
theorem andi_ofBool (p q : Prop) [Decidable p] [Decidable q] :
    IntOp.andi (BitVec.ofBool (decide p)) (BitVec.ofBool (decide q)) = BitVec.ofBool (decide (p ∧ q)) := by
  by_cases h : p <;> by_cases h' : q <;> simp [h, h', IntOp.andi]
theorem ori_ofBool (p q : Prop) [Decidable p] [Decidable q] :
    IntOp.ori (BitVec.ofBool (decide p)) (BitVec.ofBool (decide q)) = BitVec.ofBool (decide (p ∨ q)) := by
  by_cases h : p <;> by_cases h' : q <;> simp [h, h', IntOp.ori]
theorem select_ofBool {α : Type} (p : Prop) [Decidable p] (u v : α) :
    Scalar.select (BitVec.ofBool (decide p)) u v = if p then u else v := by
  by_cases h : p <;> simp [h, Scalar.select]

/-- A choice of one of sixteen positions by a comparison of words. -/
theorem select_eq_word {α : Type} (a e : Fin 16) (u v : α) :
    Scalar.select (IntOp.cmpi .eq (BitVec.ofNat 32 a.val) (BitVec.ofNat 32 e.val)) u v = if a = e then u else v := by
  rw [cmpi_eq_word _ _ (by omega) (by omega), select_ofBool]
  exact if_congr Fin.val_inj rfl rfl

/-- The first position with a property, as a signed minimum of the positions that have it and of sixteens. -/
theorem first_position (p : Fin 16 → Prop) [DecidablePred p] (a : Fin 16) (ha : p a) (hmin : ∀ e, p e → a ≤ e) :
    Finset.univ.fold IntOp.minsi 2147483647#32 (fun e : Fin 16 => if p e then BitVec.ofNat 32 e.val else 16#32)
      = BitVec.ofNat 32 a.val := by
  have ha' : (BitVec.ofNat 32 a.val).toInt = a.val := toInt_small _ (by omega)
  have hle := fold_minsi_le 2147483647#32 (fun e : Fin 16 => if p e then BitVec.ofNat 32 e.val else 16#32) Finset.univ a (Finset.mem_univ a)
  rcases fold_minsi_mem 2147483647#32 (fun e : Fin 16 => if p e then BitVec.ofNat 32 e.val else 16#32) Finset.univ with h | ⟨e, -, h⟩
  · simp only [h, if_pos ha, ha'] at hle
    have : (2147483647#32 : BitVec 32).toInt = 2147483647 := by decide
    omega
  · rw [h] at hle ⊢
    by_cases hp : p e
    · simp only [if_pos hp, if_pos ha] at hle ⊢
      rw [toInt_small e.val (by omega), ha'] at hle
      have h2 : a ≤ e := hmin e hp
      have : e = a := by omega
      rw [this]
    · simp only [if_neg hp, if_pos ha] at hle
      rw [ha'] at hle
      have : (16#32 : BitVec 32).toInt = 16 := by decide
      omega

/-- The maximum of a row, from −∞, is its value at a position none exceeds. -/
theorem fold_max_eq {n : ℕ} (g : Fin n → EReal) (a : Fin n) (h : ∀ e, g e ≤ g a) : Finset.univ.fold max (⊥ : EReal) g = g a :=
  le_antisymm ((Finset.fold_max_le _).mpr ⟨bot_le, fun e _ => h e⟩) ((Finset.le_fold_max _).mpr (Or.inr ⟨a, Finset.mem_univ a, le_refl _⟩))

theorem ofBits_negInf : Ideal.ofBits .f32 0xFF800000#32 = ⊥ := by
  simp [Ideal.ofBits, Ideal.ieee]
theorem ofBits_least : Ideal.ofBits .f32 0xFF7FFFFF#32 = -Ideal.ofBits .f32 0x7F7FFFFF#32 := by
  simp [Ideal.ofBits, Ideal.ieee]

variable (g : Fin 16 → EReal) (a b : Fin 16) (h : Pick g a b)
include h

theorem Pick.first : Finset.univ.fold IntOp.minsi 2147483647#32
    (fun e : Fin 16 => if g e = g a then BitVec.ofNat 32 e.val else 16#32) = BitVec.ofNat 32 a.val :=
  first_position (fun e => g e = g a) a rfl h.top_first

/-- The row with the first choice overwritten by something below every gate: its greatest value … -/
theorem Pick.second_max (lo : EReal) (hlo : ∀ e, lo < g e) :
    Finset.univ.fold max (⊥ : EReal) (fun e : Fin 16 => if e = a then lo else g e) = g b := by
  have := fold_max_eq (fun e : Fin 16 => if e = a then lo else g e) b (fun e => by
    rw [if_neg h.ne]; split
    · exact (hlo b).le
    · exact h.snd e ‹_›)
  rw [this, if_neg h.ne]

/-- … and that value's first position. -/
theorem Pick.second (lo : EReal) (hlo : ∀ e, lo < g e) : Finset.univ.fold IntOp.minsi 2147483647#32
    (fun e : Fin 16 => if (if e = a then lo else g e) = g b then BitVec.ofNat 32 e.val else 16#32) = BitVec.ofNat 32 b.val :=
  first_position (fun e => (if e = a then lo else g e) = g b) b (if_neg h.ne) fun e he => by
    by_cases hea : e = a
    · rw [if_pos hea] at he; exact absurd he (hlo b).ne
    · rw [if_neg hea] at he; exact h.snd_first e hea he

end Cert.Moe
-- ==== Proof.TopTwo.lean ====
/-
# The top two of each row of gates

What a stable top-two over the last axis of a `[1024, 16]` array reads at a row: the gate, and its position, that the
stable sort of the row puts at place 0 or 1.
-/
module

public import proofs.«01_k».proof.Proof.Choice
public import Idealize.ShloMosaic.Lib.Pointwise
public import Idealize.ShloMosaic.Lib.Routing.OpsOne

@[expose] public section

set_option maxRecDepth 16384

noncomputable section

namespace Cert.Moe

open Idealize.ShloMosaic

abbrev X2 : Shape := ⟨2, ![1024, 16]⟩
abbrev X1 : Shape := ⟨2, ![1024, 2]⟩

theorem along_col (t : Fin 1024) (k e : Fin 16) : (ix2 t k : X2.Idx).along (1 : Fin 2) e = ix2 t e := by
  funext a
  match a with
  | ⟨0, _⟩ => rfl
  | ⟨1, _⟩ => rfl

/-- The sort of each row by its gates, carrying the positions, read at a place. -/
theorem sort2_value (x : FVec Ideal X2 .f32) (idx : IVec X2 32) (t : Fin 1024) (k : Fin 16) :
    (Host.sort2 X2 1 (fun l r : EReal × BitVec 32 => FloatOps.cmpfTotal (F := Ideal) (φ := .f32) .gt l.1 r.1) x idx).1 (ix2 t k)
      = x (ix2 t (place (fun e => x (ix2 t e)) k)) := by
  show x ((ix2 t k : X2.Idx).along (1 : Fin 2) (sortedFrom (fun k1 k2 : Fin 16 =>
    FloatOps.cmpfTotal (F := Ideal) (φ := .f32) .gt (x ((ix2 t k : X2.Idx).along (1 : Fin 2) k1)) (x ((ix2 t k : X2.Idx).along (1 : Fin 2) k2)) == 1#1) k)) = _
  simp only [along_col]
  exact congrArg x (along_col t k _)
theorem sort2_index (x : FVec Ideal X2 .f32) (idx : IVec X2 32) (t : Fin 1024) (k : Fin 16) :
    (Host.sort2 X2 1 (fun l r : EReal × BitVec 32 => FloatOps.cmpfTotal (F := Ideal) (φ := .f32) .gt l.1 r.1) x idx).2 (ix2 t k)
      = idx (ix2 t (place (fun e => x (ix2 t e)) k)) := by
  show idx ((ix2 t k : X2.Idx).along (1 : Fin 2) (sortedFrom (fun k1 k2 : Fin 16 =>
    FloatOps.cmpfTotal (F := Ideal) (φ := .f32) .gt (x ((ix2 t k : X2.Idx).along (1 : Fin 2) k1)) (x ((ix2 t k : X2.Idx).along (1 : Fin 2) k2)) == 1#1) k)) = _
  simp only [along_col]
  exact congrArg idx (along_col t k _)

/-- The top two of each row: the gate … -/
theorem topK_value (x : FVec Ideal X2 .f32) (h : X2.Slices (fun _ => 0) X1) (t : Fin 1024) (k : Fin 2) :
    (Host.topK X1 1 (FloatOps.cmpfTotal (F := Ideal) (φ := .f32) .gt) x h).1 (ix2 t k)
      = x (ix2 t (place (fun e => x (ix2 t e)) (k.castLE (by decide)))) := by
  refine Eq.trans ?_ (sort2_value x (iotaInDim X2 32 1) t (k.castLE (by decide)))
  unfold Host.topK
  pointwise []
  rfl
/-- … and its position. -/
theorem topK_index (x : FVec Ideal X2 .f32) (h : X2.Slices (fun _ => 0) X1) (t : Fin 1024) (k : Fin 2) :
    (Host.topK X1 1 (FloatOps.cmpfTotal (F := Ideal) (φ := .f32) .gt) x h).2 (ix2 t k)
      = BitVec.ofNat 32 (place (fun e => x (ix2 t e)) (k.castLE (by decide))).val := by
  refine Eq.trans ?_ (sort2_index x (iotaInDim X2 32 1) t (k.castLE (by decide)))
  unfold Host.topK
  pointwise []
  rfl

end Cert.Moe
-- ==== Proof.Spec.lean ====
/-
# The layer, as a formula

The mathematics both programs compute, over the extended reals: the gates of a token, its two experts with their weights,
an expert's two-layer network, and the row they make. Also how many tokens up to a given one chose an expert.
-/
module

public import proofs.«01_k».proof.Proof.TopTwo

@[expose] public section

noncomputable section

namespace Cert.Moe

open Idealize.ShloMosaic

/-- The arrays of the layer: the tokens, the router, and the two stacks of weights. -/
structure Layer where
  x : FVec Ideal ⟨2, ![1024, 1024]⟩ .f32
  g : FVec Ideal ⟨2, ![1024, 16]⟩ .f32
  w1 : FVec Ideal ⟨3, ![16, 1024, 2048]⟩ .f32
  w2 : FVec Ideal ⟨3, ![16, 2048, 1024]⟩ .f32

namespace Layer

variable (L : Layer)

/-- The gate of token `t` for expert `e`. -/
def gate (t : Fin 1024) (e : Fin 16) : EReal := ∑ d : Fin 1024, L.x (ix2 t d) * L.g (ix2 d e)
/-- The two experts token `t` chooses. -/
def fst (t : Fin 1024) : Fin 16 := top1 (L.gate t)
def snd (t : Fin 1024) : Fin 16 := top2 (L.gate t)
/-- The second choice's weight before normalising (the first's is one). -/
def ratio (t : Fin 1024) : EReal := Ideal.exp (L.gate t (L.snd t) - L.gate t (L.fst t))
def wt1 (t : Fin 1024) : EReal := Ideal.div 1 (1 + L.ratio t)
def wt2 (t : Fin 1024) : EReal := Ideal.div (L.ratio t) (1 + L.ratio t)
/-- Expert `e`'s network on token `t`. -/
def ffn (t : Fin 1024) (e : Fin 16) (d : Fin 1024) : EReal :=
  ∑ f : Fin 2048, max (∑ k : Fin 1024, L.x (ix2 t k) * L.w1 (ix3 e k f)) 0 * L.w2 (ix3 e f d)
/-- The layer's row of token `t`. -/
def row (t : Fin 1024) (d : Fin 1024) : EReal := L.wt1 t * L.ffn t (L.fst t) d + L.wt2 t * L.ffn t (L.snd t) d

/-- Token `t` chooses expert `e`. -/
def chosen (e : Fin 16) (t : Fin 1024) : Prop := L.fst t = e ∨ L.snd t = e
instance (e : Fin 16) (t : Fin 1024) : Decidable (L.chosen e t) :=
  inferInstanceAs (Decidable (L.fst t = e ∨ L.snd t = e))

/-- Every gate lies strictly between the least and the greatest finite float. -/
def InRange : Prop := ∀ t e, max (L.gate t e) (-L.gate t e) < Ideal.ofBits .f32 0x7F7FFFFF#32

variable {L}

theorem pick (t : Fin 1024) : Pick (L.gate t) (L.fst t) (L.snd t) := pick_tops _

theorem InRange.low (h : L.InRange) (t : Fin 1024) (e : Fin 16) : Ideal.ofBits .f32 0xFF7FFFFF#32 < L.gate t e := by
  rw [ofBits_least]
  exact EReal.neg_lt_comm.mp ((le_max_right _ _).trans_lt (h t e))

theorem InRange.real (h : L.InRange) (t : Fin 1024) (e : Fin 16) : ∃ r : ℝ, L.gate t e = r := by
  have h1 : L.gate t e ≠ ⊤ := ((le_max_left _ _).trans_lt (h t e)).ne_top
  have h2 : L.gate t e ≠ ⊥ := (bot_le.trans_lt (h.low t e)).ne'
  exact ⟨_, (EReal.coe_toReal h1 h2).symm⟩

end Layer

/-- How many tokens up to `t` have the property. -/
def rank (p : Fin 1024 → Prop) [DecidablePred p] (t : Fin 1024) : ℕ := (Finset.univ.filter fun s => s ≤ t ∧ p s).card

end Cert.Moe
-- ==== Proof.Gates.lean ====
/-
# What the kernel's routing computes

The kernel's gates, its two choices by rounds of maximum and first position, the weights, the per-expert indicator and
weight columns, and the ranks (a product with a lower triangle of ones): each read at a token as the layer's formula.
-/
module

public import proofs.«01_k».proof.Proof.Mem
public import proofs.«01_k».proof.Proof.Spec

@[expose] public section

set_option maxRecDepth 16384

noncomputable section

namespace Cert.Moe

open Idealize.ShloMosaic
open Cert.KernelIdeal Cert.KernelIdeal.Facts₀ Cert.KernelIdeal.Facts
open Cert.KernelIdeal.Gen

/-- The devices' arguments are the layer's arrays, cut into four: tokens and experts in order of the devices. -/
structure Holds (m : (ℓ : Loc nD τ sig) → Buf (Elt Ideal) ℓ) (L : Layer) : Prop where
  x : ∀ (b : Dev nD) (i : Fin 256) (d t : Fin 1024), t.val = 256 * b.val + i.val → arg0 m b (ix2 i d) = L.x (ix2 t d)
  g : ∀ (b : Dev nD) (d : Fin 1024) (j : Fin 4) (e : Fin 16), e.val = 4 * b.val + j.val → arg1 m b (ix2 d j) = L.g (ix2 d e)
  w1 : ∀ (b : Dev nD) (j : Fin 4) (e : Fin 16) (k : Fin 1024) (f : Fin 2048), e.val = 4 * b.val + j.val →
    arg2 m b (ix3 j k f) = L.w1 (ix3 e k f)
  w2 : ∀ (b : Dev nD) (j : Fin 4) (e : Fin 16) (f : Fin 2048) (d : Fin 1024), e.val = 4 * b.val + j.val →
    arg3 m b (ix3 j f d) = L.w2 (ix3 e f d)

/-- Device `c`'s expert number `j`, among all. -/
def ex (c : Dev nD) (j : Fin 4) : Fin 16 := ⟨4 * c.val + j.val, by have := c.isLt; have := j.isLt; simp only [nD] at *; omega⟩

variable {m : (ℓ : Loc nD τ sig) → Buf (Elt Ideal) ℓ} {L : Layer}

theorem XF_at (H : Holds m L) (t d : Fin 1024) : XF m (ix2 t d) = L.x (ix2 t d) :=
  H.x ⟨t.val / 256, by show t.val / 256 < 4; omega⟩ ⟨t.val % 256, Nat.mod_lt _ (by decide)⟩ d t (by show t.val = 256 * (t.val / 256) + t.val % 256; omega)

theorem gate_at (H : Holds m L) (t : Fin 1024) (e : Fin 16) :
    k0_pay2 (gRow m 0) (gRow m 1) (gRow m 2) (gRow m 3) (XF m) (ix2 t e) = L.gate t e := by
  unfold Layer.gate
  pointwise [k0_pay2]
  refine Finset.sum_congr rfl fun d _ => ?_
  rw [XF_at H]
  refine congrArg _ ?_
  split
  · exact H.g 0 d _ e (by show e.val = 4 * 0 + e.val; omega)
  · split
    · exact H.g 1 d _ e (by show e.val = 4 * 1 + (e.val - 4); omega)
    · split
      · exact H.g 2 d _ e (by show e.val = 4 * 2 + (e.val - 4 - 4); omega)
      · exact H.g 3 d _ e (by show e.val = 4 * 3 + (e.val - 4 - 4 - 4); omega)

theorem max_row (L : Layer) (t : Fin 1024) :
    Finset.univ.fold max (Ideal.ofBits FTy.f32 4286578688#32) (fun e => L.gate t e) = L.gate t (L.fst t) := by
  rw [ofBits_negInf]
  exact fold_max_eq _ _ (Layer.pick t).top

theorem q227_at (H : Holds m L) (t : Fin 1024) : q227 m (ix2 t 0) = L.gate t (L.fst t) := by
  pointwise [q227, k0_pay3]
  simp only [gate_at H]
  exact max_row L t

theorem q233_at (H : Holds m L) (t : Fin 1024) : q233 m (ix2 t 0) = BitVec.ofNat 32 (L.fst t).val := by
  pointwise [q233, k0_pay4, k0_pay3]
  simp only [gate_at H, max_row]
  exact (Layer.pick t).first

theorem q237_at (H : Holds m L) (t : Fin 1024) (e : Fin 16) :
    q237 m (ix2 t e) = if e = L.fst t then Ideal.ofBits .f32 0xFF7FFFFF#32 else L.gate t e := by
  have h := q233_at H t
  unfold q233 at h
  pointwise [q237, k0_pay5]
  simp only [gate_at H, h, select_eq_word]

theorem q239_at (H : Holds m L) (hr : L.InRange) (t : Fin 1024) : q239 m (ix2 t 0) = L.gate t (L.snd t) := by
  have h := q237_at H t
  unfold q237 at h
  pointwise [q239, k0_pay6]
  simp only [h]
  rw [ofBits_negInf]
  exact (Layer.pick t).second_max _ _ _ _ (hr.low t)

theorem q245_at (H : Holds m L) (hr : L.InRange) (t : Fin 1024) : q245 m (ix2 t 0) = BitVec.ofNat 32 (L.snd t).val := by
  pointwise [q245, k0_pay7, q225]
  simp only [q237_at H, q239_at H hr]
  exact (Layer.pick t).second _ _ _ _ (hr.low t)

theorem q251_at (H : Holds m L) (hr : L.InRange) (t : Fin 1024) : q251 m (ix2 t 0) = L.wt1 t := by
  pointwise [q251, k0_pay9, k0_pay8]
  simp only [q227_at H, q239_at H hr]
  rfl
theorem q254_at (H : Holds m L) (hr : L.InRange) (t : Fin 1024) : q254 m (ix2 t 0) = L.wt2 t := by
  pointwise [q254, k0_pay10, k0_pay8]
  simp only [q227_at H, q239_at H hr]
  rfl

/-! ## The columns of the device's four experts -/

theorem word0 (c : Dev nD) : Scalar.addi (Scalar.muli (v2w c) 4#32) 0#32 = BitVec.ofNat 32 (ex c 0).val :=
  (by decide +kernel : ∀ c : Dev nD, Scalar.addi (Scalar.muli (v2w c) 4#32) 0#32 = BitVec.ofNat 32 (ex c 0).val) c
theorem word1 (c : Dev nD) : Scalar.addi (Scalar.muli (v2w c) 4#32) 1#32 = BitVec.ofNat 32 (ex c 1).val :=
  (by decide +kernel : ∀ c : Dev nD, Scalar.addi (Scalar.muli (v2w c) 4#32) 1#32 = BitVec.ofNat 32 (ex c 1).val) c
theorem word2 (c : Dev nD) : Scalar.addi (Scalar.muli (v2w c) 4#32) 2#32 = BitVec.ofNat 32 (ex c 2).val :=
  (by decide +kernel : ∀ c : Dev nD, Scalar.addi (Scalar.muli (v2w c) 4#32) 2#32 = BitVec.ofNat 32 (ex c 2).val) c
theorem word3 (c : Dev nD) : Scalar.addi (Scalar.muli (v2w c) 4#32) 3#32 = BitVec.ofNat 32 (ex c 3).val :=
  (by decide +kernel : ∀ c : Dev nD, Scalar.addi (Scalar.muli (v2w c) 4#32) 3#32 = BitVec.ofNat 32 (ex c 3).val) c

/-- The indicator column of expert `e`, and its weight column. -/
def ind (L : Layer) (e : Fin 16) (t : Fin 1024) : EReal := if L.chosen e t then 1 else 0
def wgt (L : Layer) (e : Fin 16) (t : Fin 1024) : EReal := (if L.fst t = e then L.wt1 t else 0) + (if L.snd t = e then L.wt2 t else 0)

theorem select_or_words (a b e : Fin 16) (u v : EReal) :
    Scalar.select (IntOp.ori (IntOp.cmpi .eq (BitVec.ofNat 32 a.val) (BitVec.ofNat 32 e.val))
      (IntOp.cmpi .eq (BitVec.ofNat 32 b.val) (BitVec.ofNat 32 e.val))) u v = if a = e ∨ b = e then u else v := by
  rw [cmpi_eq_word _ _ (by omega) (by omega), cmpi_eq_word _ _ (by omega) (by omega), ori_ofBool, select_ofBool]
  exact if_congr (or_congr Fin.val_inj Fin.val_inj) rfl rfl

theorem k7_at (H : Holds m L) (hr : L.InRange) (t : Fin 1024) :
    k0_pay7 q225 (q237 m) (q239 m) (ix2 t 0) = BitVec.ofNat 32 (L.snd t).val := q245_at H hr t

section
variable (H : Holds m L) (hr : L.InRange) (c : Dev nD) (t : Fin 1024)
include H hr

theorem q264_at : q264 m c (ix2 t 0) = ind L (ex c 0) t := by
  pointwise [q264, k0_pay13, k0_pay11, k0_pay12]
  simp only [q233_at H, k7_at H hr, word0, select_or_words]
  exact if_congr Iff.rfl rfl rfl
theorem q269_at : q269 m c (ix2 t 0) = wgt L (ex c 0) t := by
  pointwise [q269, k0_pay14, k0_pay11, k0_pay12, k0_pay9, k0_pay10, k0_pay8]
  simp only [q233_at H, k7_at H hr, q227_at H, q239_at H hr, word0, select_eq_word, wgt, Layer.wt1, Layer.wt2, Layer.ratio]
theorem q279_at : q279 m c (ix2 t 0) = ind L (ex c 1) t := by
  pointwise [q279, k0_pay17, k0_pay15, k0_pay16]
  simp only [q233_at H, k7_at H hr, word1, select_or_words]
  exact if_congr Iff.rfl rfl rfl
theorem q284_at : q284 m c (ix2 t 0) = wgt L (ex c 1) t := by
  pointwise [q284, q275, q281, q282, k0_pay20, k0_pay18, k0_pay19, k0_pay15, k0_pay16, k0_pay9, k0_pay8]
  simp only [q233_at H, k7_at H hr, q227_at H, q239_at H hr, q254_at H hr, word1, select_eq_word, wgt, Layer.wt1, Layer.wt2, Layer.ratio]
theorem q294_at : q294 m c (ix2 t 0) = ind L (ex c 2) t := by
  pointwise [q294, k0_pay23, k0_pay21, k0_pay22]
  simp only [q233_at H, q245_at H hr, word2, select_or_words]
  exact if_congr Iff.rfl rfl rfl
theorem q299_at : q299 m c (ix2 t 0) = wgt L (ex c 2) t := by
  pointwise [q299, k0_pay24, k0_pay21, k0_pay22]
  simp only [q233_at H, q245_at H hr, q251_at H hr, q254_at H hr, word2, select_eq_word, wgt, Layer.wt1, Layer.wt2, Layer.ratio]
theorem q309_at : q309 m c (ix2 t 0) = ind L (ex c 3) t := by
  pointwise [q309, k0_pay27, k0_pay25, k0_pay26]
  simp only [q233_at H, q245_at H hr, word3, select_or_words]
  exact if_congr Iff.rfl rfl rfl
theorem q314_at : q314 m c (ix2 t 0) = wgt L (ex c 3) t := by
  pointwise [q314, k0_pay28, k0_pay25, k0_pay26]
  simp only [q233_at H, q245_at H hr, q251_at H hr, q254_at H hr, word3, select_eq_word, wgt, Layer.wt1, Layer.wt2, Layer.ratio]

end

/-- A sum over the tokens of "not after `t`, and has the property" is the rank. -/
theorem sum_rank (p : Fin 1024 → Prop) [DecidablePred p] (t : Fin 1024) :
    (∑ s : Fin 1024, Scalar.select (IntOp.cmpi .sle (BitVec.ofNat 32 s.val) (BitVec.ofNat 32 t.val)) (if p s then (1 : EReal) else 0) 0)
      = (rank p t : EReal) := by
  have h : ∀ s : Fin 1024, Scalar.select (IntOp.cmpi .sle (BitVec.ofNat 32 s.val) (BitVec.ofNat 32 t.val)) (if p s then (1 : EReal) else 0) 0
      = if s ≤ t ∧ p s then 1 else 0 := by
    intro s
    rw [cmpi_sle_word _ _ (by omega) (by omega), select_ofBool, ite_and]
    exact if_congr Fin.val_fin_le rfl rfl
  rw [Finset.sum_congr rfl fun s _ => h s, rank, Finset.card_filter, Nat.cast_sum]
  exact Finset.sum_congr rfl fun s _ => by split <;> simp

/-- The ranks: column `j` counts the tokens up to the row's that chose the device's expert `j`. -/
theorem rank_at (H : Holds m L) (hr : L.InRange) (c : Dev nD) (t : Fin 1024) (j : Fin 4) :
    q322 m c (ix2 t j) = (rank (L.chosen (ex c j)) t : EReal) := by
  have h3 : ∀ s, k0_pay23 (F := Ideal) (v2w c) (q233 m) (q245 m) (ix2 s 0) = ind L (ex c 2) s := q294_at H hr c
  have h4 : ∀ s, k0_pay27 (F := Ideal) (v2w c) (q233 m) (q245 m) (ix2 s 0) = ind L (ex c 3) s := q309_at H hr c
  pointwise [q322, k0_pay29]
  rw [← sum_rank]
  refine Finset.sum_congr rfl fun s _ => ?_
  fin_cases j
  · exact congrArg (fun v => Scalar.select _ v 0) (q264_at H hr c s)
  · exact congrArg (fun v => Scalar.select _ v 0) (q279_at H hr c s)
  · exact congrArg (fun v => Scalar.select _ v 0) (h3 s)
  · exact congrArg (fun v => Scalar.select _ v 0) (h4 s)

end Cert.Moe
-- ==== Proof.Dispatch.lean ====
/-
# What the kernel's experts add up to

An expert gathers the tokens that chose it into the rows of a 256-row block by their ranks, applies its network and
scatters the rows back with the tokens' weights. For a token whose rank fits the block that is its own network row times
its weight. Adding the device's four experts, and the four devices around the ring, gives the layer's row.
-/
module

public import proofs.«01_k».proof.Proof.Gates

@[expose] public section

set_option maxRecDepth 16384

noncomputable section

namespace Cert.Moe

open Idealize.ShloMosaic
open Cert.KernelIdeal Cert.KernelIdeal.Facts₀ Cert.KernelIdeal.Facts
open Cert.KernelIdeal.Gen

/-! ## Gathering and scattering by ranks -/

section
variable (p : Fin 1024 → Prop) [DecidablePred p]

theorem rank_pos (t : Fin 1024) (h : p t) : 0 < rank p t :=
  Finset.card_pos.mpr ⟨t, Finset.mem_filter.mpr ⟨Finset.mem_univ _, le_refl _, h⟩⟩

theorem rank_lt (s t : Fin 1024) (hst : s < t) (h : p t) : rank p s < rank p t := by
  refine Finset.card_lt_card ⟨fun u hu => ?_, fun hss => ?_⟩
  · obtain ⟨-, h1, h2⟩ := Finset.mem_filter.mp hu
    exact Finset.mem_filter.mpr ⟨Finset.mem_univ _, h1.trans hst.le, h2⟩
  · have := hss (Finset.mem_filter.mpr ⟨Finset.mem_univ t, le_refl _, h⟩)
    exact absurd (Finset.mem_filter.mp this).2.1 (not_le.mpr hst)

/-- Different tokens with the property have different ranks. -/
theorem rank_inj (s t : Fin 1024) (hs : p s) (ht : p t) (h : rank p s = rank p t) : s = t := by
  rcases lt_trichotomy s t with h' | h' | h'
  · exact absurd h (rank_lt p s t h' ht).ne
  · exact h'
  · exact absurd h.symm (rank_lt p t s h' hs).ne

/-- Token `s` goes to row `k` of the expert's block. -/
def Hit (s : Fin 1024) (k : Fin 256) : Prop := rank p s = k.val + 1 ∧ p s
instance (s : Fin 1024) (k : Fin 256) : Decidable (Hit p s k) := inferInstanceAs (Decidable (rank p s = k.val + 1 ∧ p s))

theorem dispatch (t : Fin 1024) (hroom : p t → rank p t ≤ 256) (w : EReal) (X : Fin 1024 → Fin 1024 → EReal)
    (A : Fin 1024 → Fin 2048 → EReal) (B : Fin 2048 → EReal) :
    (∑ k : Fin 256, if Hit p t k then w * ∑ f : Fin 2048, max (∑ a : Fin 1024, (∑ s : Fin 1024, if Hit p s k then X s a else 0) * A a f) 0 * B f else 0)
      = if p t then w * ∑ f : Fin 2048, max (∑ a : Fin 1024, X t a * A a f) 0 * B f else 0 := by
  by_cases ht : p t
  · rw [if_pos ht]
    have h0 := rank_pos p t ht
    have h1 := hroom ht
    have hk : Hit p t ⟨rank p t - 1, by omega⟩ := ⟨by show rank p t = rank p t - 1 + 1; omega, ht⟩
    rw [Finset.sum_eq_single ⟨rank p t - 1, by omega⟩]
    · rw [if_pos hk]
      have hX : ∀ a, (∑ s : Fin 1024, if Hit p s ⟨rank p t - 1, by omega⟩ then X s a else 0) = X t a := by
        intro a
        rw [Finset.sum_eq_single t]
        · rw [if_pos hk]
        · intro s _ hs
          rw [if_neg fun h => hs (rank_inj p s t h.2 ht (h.1.trans hk.1.symm))]
        · exact fun h => absurd (Finset.mem_univ _) h
      simp only [hX]
    · intro k _ hne
      rw [if_neg fun h => hne (Fin.ext (by show k.val = rank p t - 1; have := h.1; omega))]
    · exact fun h => absurd (Finset.mem_univ _) h
  · rw [if_neg ht]
    exact Finset.sum_eq_zero fun k _ => if_neg fun h => ht h.2

end

/-- The kernel's test "row `k` is the token's rank less one, and the token chose the expert". -/
theorem select_hit (L : Layer) (e : Fin 16) (s : Fin 1024) (k : Fin 256) (u v : EReal)
    [Decidable ((rank (L.chosen e) s : EReal) - 1 = FloatOps.sitofp (F := Ideal) FTy.f32 (BitVec.ofNat 32 k.val))] [Decidable (0 < ind L e s)] :
    Scalar.select (IntOp.andi (BitVec.ofBool (decide ((rank (L.chosen e) s : EReal) - 1 = FloatOps.sitofp (F := Ideal) FTy.f32 (BitVec.ofNat 32 k.val))))
      (BitVec.ofBool (decide (0 < ind L e s)))) u v = if Hit (L.chosen e) s k then u else v := by
  rw [andi_ofBool, select_ofBool]
  refine if_congr (and_congr ?_ ?_) rfl rfl
  · have h1 : FloatOps.sitofp (F := Ideal) FTy.f32 (BitVec.ofNat 32 k.val) = (((k.val : ℕ) : ℝ) : EReal) := by
      show (((BitVec.ofNat 32 k.val).toInt : ℝ) : EReal) = _
      rw [toInt_small _ (by omega)]; norm_cast
    have h2 : ((rank (L.chosen e) s : ℕ) : EReal) - 1 = (((rank (L.chosen e) s : ℕ) : ℝ) - 1 : ℝ) := by
      rw [EReal.coe_sub, EReal.coe_one]; rfl
    rw [h1, h2, EReal.coe_eq_coe_iff, sub_eq_iff_eq_add]
    norm_cast
  · unfold ind
    split
    · simp [*]
    · simp [*]

variable {m : (ℓ : Loc nD τ sig) → Buf (Elt Ideal) ℓ} {L : Layer}

/-- What an expert adds to a token's row. -/
def part (L : Layer) (e : Fin 16) (t d : Fin 1024) : EReal := if L.chosen e t then wgt L e t * L.ffn t e d else 0

theorem part_eq (e : Fin 16) (t d : Fin 1024) (hroom : L.chosen e t → rank (L.chosen e) t ≤ 256) :
    (∑ k : Fin 256, if Hit (L.chosen e) t k then wgt L e t * ∑ f : Fin 2048,
        max (∑ a : Fin 1024, (∑ s : Fin 1024, if Hit (L.chosen e) s k then L.x (ix2 s a) else 0) * L.w1 (ix3 e a f)) 0 * L.w2 (ix3 e f d) else 0)
      = part L e t d :=
  dispatch (L.chosen e) t hroom (wgt L e t) (fun s a => L.x (ix2 s a)) (fun a f => L.w1 (ix3 e a f)) (fun f => L.w2 (ix3 e f d))

theorem qz_eq : (qz (F := Ideal)) = (0 : EReal) := Ideal.ofBits_zero_f32

theorem w1Row_at (H : Holds m L) (c : Dev nD) (j : Fin 4) (k : Fin 1024) (f : Fin 2048) :
    w1Row m c j (ix3 0 k f) = L.w1 (ix3 (ex c j) k f) := H.w1 c j (ex c j) k f rfl
theorem w2Row_at (H : Holds m L) (c : Dev nD) (j : Fin 4) (f : Fin 2048) (d : Fin 1024) :
    w2Row m c j (ix3 0 f d) = L.w2 (ix3 (ex c j) f d) := H.w2 c j (ex c j) f d rfl

section
variable (H : Holds m L) (hr : L.InRange) (c : Dev nD) (t d : Fin 1024) (hroom : ∀ e, L.chosen e t → rank (L.chosen e) t ≤ 256)
include H hr hroom

theorem acc1_at : acc1 m c (ix2 t d) = part L (ex c 0) t d := by
  pointwise [acc1, k0_pay32, q324, k0_pay30, q353, k0_pay31]
  simp only [rank_at H hr, q264_at H hr, q269_at H hr, qz_eq, select_hit, XF_at H, w1Row_at H, w2Row_at H]
  exact part_eq _ t d (hroom _)

theorem acc2_at : acc2 m c (ix2 t d) = acc1 m c (ix2 t d) + part L (ex c 1) t d := by
  pointwise [acc2, k0_pay37, q324, k0_pay30, q411, k0_pay33, q414, k0_pay34, q416, k0_pay35, q417, k0_pay36]
  simp only [rank_at H hr, q279_at H hr, q284_at H hr, qz_eq, select_hit, XF_at H, w1Row_at H, w2Row_at H]
  rw [part_eq _ t d (hroom _)]

theorem acc3_at : acc3 m c (ix2 t d) = acc2 m c (ix2 t d) + part L (ex c 2) t d := by
  pointwise [acc3, k0_pay41, q324, k0_pay30, q474, k0_pay39, q476, k0_pay40, k0_pay38]
  simp only [rank_at H hr, q294_at H hr, q299_at H hr, qz_eq, select_hit, XF_at H, w1Row_at H, w2Row_at H]
  rw [part_eq _ t d (hroom _)]

theorem acc4_at : acc4 m c (ix2 t d) = acc3 m c (ix2 t d) + part L (ex c 3) t d := by
  pointwise [acc4, k0_pay43, q324, k0_pay30, q507, k0_pay42]
  simp only [rank_at H hr, q309_at H hr, q314_at H hr, qz_eq, select_hit, XF_at H, w1Row_at H, w2Row_at H]
  rw [part_eq _ t d (hroom _)]

end

end Cert.Moe
-- ==== Proof.Total.lean ====
/-
# The kernel's result is the layer's row
-/
module

public import proofs.«01_k».proof.Proof.Dispatch

@[expose] public section

set_option maxRecDepth 16384

noncomputable section

namespace Cert.Moe

open Idealize.ShloMosaic
open Cert.KernelIdeal Cert.KernelIdeal.Facts₀ Cert.KernelIdeal.Facts
open Cert.KernelIdeal.Gen

/-- Over the four devices and the four experts of each, a sum is the sum over all experts. -/
theorem sum_experts (f : Fin 16 → EReal) : (∑ c : Fin 4, ∑ j : Fin 4, f (ex c j)) = ∑ e : Fin 16, f e := by
  rw [← Fintype.sum_prod_type', ← Equiv.sum_comp (finProdFinEquiv : Fin 4 × Fin 4 ≃ Fin 16)]
  refine Finset.sum_congr rfl fun x _ => congrArg f (Fin.ext ?_)
  show 4 * x.1.val + x.2.val = x.2.val + 4 * x.1.val
  omega

/-- Going around the ring from any device visits all four. -/
theorem sum_ring (g : Dev nD → EReal) (c : Dev nD) :
    g c + (g (prv c) + (g (prv (prv c)) + g (prv (prv (prv c))))) = ∑ b : Fin 4, g b := by
  rw [Fin.sum_univ_four]
  have h : ∀ c : Dev nD, c = 0 ∨ c = 1 ∨ c = 2 ∨ c = 3 := by decide
  have p0 : prv 0 = 3 := rfl
  have p1 : prv 1 = 0 := rfl
  have p2 : prv 2 = 1 := rfl
  have p3 : prv 3 = 2 := rfl
  rcases h c with rfl | rfl | rfl | rfl <;> simp only [p0, p1, p2, p3] <;> ac_rfl

/-- A sum over all experts of which only two different ones contribute. -/
theorem sum_two (a b : Fin 16) (hne : a ≠ b) (u v : EReal) (w : Fin 16 → EReal) :
    (∑ e : Fin 16, if a = e ∨ b = e then ((if a = e then u else 0) + (if b = e then v else 0)) * w e else 0) = u * w a + v * w b := by
  have h : ∀ e, (if a = e ∨ b = e then ((if a = e then u else 0) + (if b = e then v else 0)) * w e else 0)
      = (if a = e then u * w e else 0) + (if b = e then v * w e else 0) := by
    intro e
    by_cases h1 : a = e
    · have h2 : b ≠ e := fun h2 => hne (h1.trans h2.symm)
      simp only [h1, h2, if_true, if_false, or_false, add_zero]
    · by_cases h2 : b = e
      · simp only [h1, h2, if_true, if_false, or_true, zero_add]
      · simp only [h1, h2, if_false, or_self, add_zero]
  simp only [h]
  rw [Finset.sum_add_distrib, Finset.sum_ite_eq, Finset.sum_ite_eq, if_pos (Finset.mem_univ _), if_pos (Finset.mem_univ _)]

/-- Over all experts, only a token's two choices contribute. -/
theorem sum_parts (L : Layer) (t d : Fin 1024) : (∑ e : Fin 16, part L e t d) = L.row t d := by
  have hne : L.fst t ≠ L.snd t := (Layer.pick t).ne.symm
  unfold Layer.row
  rw [← sum_two (L.fst t) (L.snd t) hne (L.wt1 t) (L.wt2 t) (fun e => L.ffn t e d)]
  refine Finset.sum_congr rfl fun e _ => ?_
  unfold part wgt
  exact if_congr Iff.rfl rfl rfl

variable {m : (ℓ : Loc nD τ sig) → Buf (Elt Ideal) ℓ} {L : Layer}

theorem bk_home : ∀ c : Dev nD, bk c 0 = c ∧ bk (prv c) 3 = c ∧ bk (prv (prv c)) 2 = c ∧ bk (prv (prv (prv c))) 1 = c := by decide

theorem accB_at (H : Holds m L) (hr : L.InRange) (c : Dev nD) (b : Fin 4) (i : Fin 256) (t d : Fin 1024) (ht : t.val = 256 * b.val + i.val)
    (hroom : ∀ e, L.chosen e t → rank (L.chosen e) t ≤ 256) : accB m c b (ix2 i d) = ∑ j : Fin 4, part L (ex c j) t d := by
  have e : accB m c b (ix2 i d) = acc4 m c (ix2 t d) := by
    obtain ⟨tv, htl⟩ := t
    simp only at ht
    subst ht
    rfl
  rw [e, acc4_at H hr c t d hroom, acc3_at H hr c t d hroom, acc2_at H hr c t d hroom, acc1_at H hr c t d hroom, Fin.sum_univ_four]

theorem outF_ring (c : Dev nD) (i : Fin 256) (d : Fin 1024) :
    outF m c (ix2 i d) = accB m c c (ix2 i d) + (accB m (prv c) c (ix2 i d) + (accB m (prv (prv c)) c (ix2 i d)
      + accB m (prv (prv (prv c))) c (ix2 i d))) := by
  obtain ⟨h0, h1, h2, h3⟩ := bk_home c
  pointwise [outF, k0_pay1, up3, D2, k0_pay46, D1, k0_pay45, D0, k0_pay44]
  rw [h0, h1, h2, h3]
  rfl

/-- Where every gate is in range and the token is among the first 256 of its experts, the kernel's row is the layer's. -/
theorem outF_at (H : Holds m L) (hr : L.InRange) (c : Dev nD) (i : Fin 256) (t d : Fin 1024) (ht : t.val = 256 * c.val + i.val)
    (hroom : ∀ e, L.chosen e t → rank (L.chosen e) t ≤ 256) : outF m c (ix2 i d) = L.row t d := by
  rw [outF_ring]
  simp only [fun b => accB_at H hr b c i t d ht hroom]
  rw [sum_ring (fun b => ∑ j : Fin 4, part L (ex b j) t d) c, sum_experts (fun e => part L e t d), sum_parts]

end Cert.Moe
-- ==== Proof.RefValue.lean ====
/-
# The reference's rows, and what its mask says

The reference program's result at a token and a column is the layer's row there, where the gates are in range. The mask
set at a token says that every gate is in range and that the token is among the first 256 of each expert it chooses.
-/
module

public import proofs.«01_k».proof.Proof.Spec
public import proofs.«01_k».proof.Proof.Gen.ReferenceIdeal.Run
public import proofs.«01_k».proof.Proof.Gen.On_kept

@[expose] public section

set_option maxRecDepth 16384

noncomputable section

namespace Cert.Moe

open Idealize.ShloMosaic Cert.ReferenceIdeal Cert.ReferenceIdeal.Gen

/-- The layer the reference's arguments hold. -/
def refLayer (m : (ℓ : Loc nD τ sig) → Buf (Elt Ideal) ℓ) : Layer :=
  ⟨m ((Dev.tc (0 : Dev nD) : Thread nD τ).loc main_arg0), m ((Dev.tc (0 : Dev nD) : Thread nD τ).loc main_arg1),
   m ((Dev.tc (0 : Dev nD) : Thread nD τ).loc main_arg2), m ((Dev.tc (0 : Dev nD) : Thread nD τ).loc main_arg3)⟩

theorem gates_ref (L : Layer) (t : Fin 1024) (e : Fin 16) :
    Ideal.matmul dot_S1024x1024_S1024x16_S1024x16_1_0_0_1_n_n L.x L.g (fun _ => 0) (ix2 t e) = L.gate t e := by
  unfold Layer.gate
  pointwise []

/-- The two places of the sort are the two choices, and the greater gate is the first's. -/
theorem place_fst (L : Layer) (t : Fin 1024) (h : 2 ≤ 16) : place (fun e => L.gate t e) (Fin.castLE h 0) = L.fst t := rfl
theorem place_snd (L : Layer) (t : Fin 1024) (h : 2 ≤ 16) : place (fun e => L.gate t e) (Fin.castLE h 1) = L.snd t := rfl
theorem max_two (L : Layer) (t : Fin 1024) (h : 2 ≤ 16) :
    Finset.univ.fold max (Ideal.ofBits FTy.f32 4286578688#32) (fun x : Fin 2 => L.gate t (place (fun e => L.gate t e) (Fin.castLE h x)))
      = L.gate t (L.fst t) := by
  rw [ofBits_negInf]
  exact fold_max_eq (fun x : Fin 2 => L.gate t (place (fun e => L.gate t e) (Fin.castLE h x))) 0 fun e => (Layer.pick t).top _

theorem exp_zero_one : Ideal.exp 0 = 1 := by
  show ((Real.exp 0 : ℝ) : EReal) = 1
  rw [Real.exp_zero]; rfl

/-- The reference's result is the layer's row. -/
theorem ref_at (m : (ℓ : Loc nD τ sig) → Buf (Elt Ideal) ℓ) (hr : (refLayer m).InRange) (t : Fin 1024) (d : Fin 1024) :
    Value.res_main_v43 (F := Ideal) m (0 : Dev nD) (ix2 t d) = (refLayer m).row t d := by
  pointwise [Value.res_main_v43]
  obtain ⟨L, hL⟩ : ∃ L, L = refLayer m := ⟨_, rfl⟩
  have e0 : m ((Dev.tc (0 : Dev nD) : Thread nD τ).loc main_arg0) = L.x := by rw [hL]; rfl
  have e1 : m ((Dev.tc (0 : Dev nD) : Thread nD τ).loc main_arg1) = L.g := by rw [hL]; rfl
  have e2 : m ((Dev.tc (0 : Dev nD) : Thread nD τ).loc main_arg2) = L.w1 := by rw [hL]; rfl
  have e3 : m ((Dev.tc (0 : Dev nD) : Thread nD τ).loc main_arg3) = L.w2 := by rw [hL]; rfl
  rw [← hL] at hr ⊢
  simp only [e0, e1, e2, e3]
  clear e0 e1 e2 e3 hL
  simp only [topK_value, topK_index, gates_ref, max_two, Fin.sum_univ_two, place_fst, place_snd, select_eq_word]
  have hz : (id (constant (F := Ideal) S_ FTy.f32 0#32) ix0 : EReal) = 0 := Ideal.ofBits_zero_f32
  have hs : L.gate t (L.fst t) - L.gate t (L.fst t) = 0 := by
    obtain ⟨r, h⟩ := hr.real t (L.fst t)
    rw [h, ← EReal.coe_sub, sub_self]; rfl
  have hf : ∀ e, (∑ f : Fin 2048, max (∑ k : Fin 1024, L.w1 (ix3 e k f) * L.x (ix2 t k)) 0 * L.w2 (ix3 e f d)) = L.ffn t e d := by
    intro e
    unfold Layer.ffn
    exact Finset.sum_congr rfl fun f _ => by rw [Finset.sum_congr rfl fun k _ => mul_comm (L.w1 (ix3 e k f)) (L.x (ix2 t k))]
  simp only [hz, hs, hf, exp_zero_one, Finset.sum_ite_eq, Finset.mem_univ, if_true]
  unfold Layer.row
  rw [mul_comm (L.wt1 t), mul_comm (L.wt2 t)]
  rfl

/-! ## The mask -/

theorem fold_andi_one {ι : Type} [DecidableEq ι] (f : ι → BitVec 1) (S : Finset ι) (h : S.fold IntOp.andi 1#1 f = 1#1) :
    ∀ e ∈ S, f e = 1#1 := by
  induction S using Finset.induction_on with
  | empty => exact fun e he => absurd he (Finset.notMem_empty _)
  | insert a S ha ih =>
    rw [Finset.fold_insert ha] at h
    obtain ⟨h1, h2⟩ := andi_one h
    intro e he
    rcases Finset.mem_insert.mp he with rfl | he'
    · exact h1
    · exact ih h2 e he'

theorem gates_kept (L : Layer) (t : Fin 1024) (e : Fin 16) :
    Ideal.matmul On_kept.dot_S1024x1024_S1024x16_S1024x16_1_0_0_1_n_n L.x L.g (fun _ => 0) (ix2 t e) = L.gate t e := by
  unfold Layer.gate
  pointwise []

/-- How often a token chose an expert, as the mask counts it: once or never. -/
theorem times_chosen (L : Layer) (t : Fin 1024) (e : Fin 16) :
    Finset.univ.fold IntOp.addi 0#32 (fun k : Fin 2 => BitVec.setWidth 32
      (IntOp.cmpi .eq (BitVec.ofNat 32 (place (fun e => L.gate t e) (Fin.castLE (by decide) k)).val) (BitVec.ofNat 32 e.val)))
      = BitVec.ofNat 32 (if L.chosen e t then 1 else 0) := by
  have hu : (Finset.univ : Finset (Fin 2)) = {0, 1} := by decide
  have hne := (Layer.pick (L := L) t).ne
  rw [hu, Finset.fold_insert (by decide), Finset.fold_singleton, place_fst, place_snd,
    cmpi_eq_word _ _ (by omega) (by omega), cmpi_eq_word _ _ (by omega) (by omega)]
  unfold Layer.chosen
  by_cases h1 : L.fst t = e
  · have h2 : ¬ L.snd t = e := fun h => hne (h.trans h1.symm)
    simp [h1, h2, Fin.val_inj]; rfl
  · by_cases h2 : L.snd t = e
    · simp [h1, h2, Fin.val_inj]; rfl
    · simp [h1, h2, Fin.val_inj]; rfl

/-- A running count of a property along the tokens is the rank. -/
theorem count_rank (p : Fin 1024 → Prop) [DecidablePred p] (f : ℕ → ℕ) (hf : ∀ i : Fin 1024, f i.val = if p i then 1 else 0) (t : Fin 1024) :
    ((List.range (t.val + 1)).map f).sum = rank p t := by
  have h1 : ((List.range (t.val + 1)).map f).sum = ∑ i ∈ Finset.range (t.val + 1), f i := by
    rw [Finset.sum, Finset.range_val, Multiset.range, Multiset.map_coe, Multiset.sum_coe]
  have h2 : ∑ i ∈ Finset.range (t.val + 1), f i = ∑ i ∈ Finset.range 1024, if i ≤ t.val then f i else 0 := by
    rw [← Finset.sum_filter]
    refine Finset.sum_congr (Finset.ext fun i => ?_) fun _ _ => rfl
    have := t.isLt
    simp only [Finset.mem_range, Finset.mem_filter]; omega
  rw [h1, h2, Finset.sum_range, rank, Finset.card_filter]
  refine Finset.sum_congr rfl fun i _ => ?_
  rw [hf]
  by_cases hle : i ≤ t
  · have : i.val ≤ t.val := hle
    simp [hle, this]
  · have : ¬ i.val ≤ t.val := hle
    simp [hle, this]

/-- The mask's running count down the tokens. -/
theorem cumsum_at (x : IVec On_kept.S1024x16 32) (p : Fin 16 → Fin 1024 → Prop) [∀ e, DecidablePred (p e)]
    (hx : ∀ (i : Fin 1024) (e : Fin 16), x (ix2 i e) = BitVec.ofNat 32 (if p e i then 1 else 0)) (t : Fin 1024) (e : Fin 16) :
    On_kept.fn_cumsum (F := Ideal) x (ix2 t e) = BitVec.ofNat 32 (rank (p e) t) := by
  unfold On_kept.fn_cumsum On_kept.fn_cumsum_0
  let f : ℕ → ℕ → ℕ := fun i c => if h : i < 1024 ∧ c < 16 then if p ⟨c, h.2⟩ ⟨i, h.1⟩ then 1 else 0 else 0
  have hf : ∀ (i : Fin 1024) (c : Fin 16), f i.val c.val = if p c i then 1 else 0 := fun i c => dif_pos ⟨i.isLt, c.isLt⟩
  refine (Routing.cumsum_rows (R := 1024) (Rm1 := 1023) (C := 16) rfl x f (fun i c => (hx i c).trans (by rw [hf])) _ rfl _ _ t e).trans ?_
  rw [count_rank (p e) (fun i => f i e.val) (fun i => hf i e) t]

theorem rank_le (p : Fin 1024 → Prop) [DecidablePred p] (t : Fin 1024) : rank p t ≤ 1024 := by
  unfold rank
  exact (Finset.card_le_univ _).trans (by rw [Fintype.card_fin])

/-- Where the mask is set, every gate is in range and the token is among the first 256 of each expert it chooses. -/
theorem kept_at (L : Layer) (t : Fin 1024) (j : Fin 1024) (h : Cert.On_kept.fn (F := Ideal) L.x L.g L.w1 L.w2 (ix2 t j) = 1#1) :
    L.InRange ∧ ∀ e, L.chosen e t → rank (L.chosen e) t ≤ 256 := by
  pointwise [Cert.On_kept.fn, Cert.On_kept.fn_part1] at h
  simp only [topK_index, gates_kept, times_chosen] at h
  obtain ⟨ha, hb⟩ := andi_one h
  constructor
  · intro t e
    have := fold_andi_one _ _ hb (t, e) (Finset.mem_univ _)
    exact (ofBool_one _).mp this
  · intro e he
    have h1 := fold_andi_one _ _ ha e (Finset.mem_univ _)
    rw [cumsum_at _ L.chosen (fun i c => by
      pointwise []
      simp only [topK_index, gates_kept, times_chosen]), if_pos he] at h1
    rcases ori_one h1 with h2 | h2
    · exact absurd h2 (by decide)
    · have hr := rank_le (L.chosen e) t
      have h3 := (cmpi_sle_word (rank (L.chosen e) t) 256 (by omega) (by omega)).symm.trans h2
      exact (ofBool_one _).mp h3

end Cert.Moe
-- ==== Proof.Value.lean ====
/-
# The kernel computes the reference's rows

The kernel's run leaves on each device the result the ring sums to; the reference's run leaves the layer's rows. From
memories where the devices hold the blocks of the reference's arrays, the two agree wherever the mask is set.
-/
module

public import proofs.«01_k».proof.Defs
public import proofs.«01_k».proof.Proof.Launch
public import proofs.«01_k».proof.Proof.Total
public import proofs.«01_k».proof.Proof.RefValue

@[expose] public section

set_option maxRecDepth 16384

noncomputable section

namespace Cert.Moe

open Idealize.ShloMosaic Idealize.ShloMosaic.TcCoe Idealize.SL.Sem
open Cert.KernelIdeal Cert.KernelIdeal.Facts₀ Cert.KernelIdeal.Facts
open Cert.KernelIdeal.Gen

/-- The result window is the whole result array, written back once: the array ends at what the body stored. -/
theorem finalA_out (m : (ℓ : Loc nD τ sig) → Buf (Elt Ideal) ℓ) (ρ : Dev nD → PrngReg) (c : Dev nD) :
    finalA m ρ c (0 : Fin 1) = outF m c := by
  have ho : (win0_0.blk (0 : Fin 1)).view.read (Elt Ideal) (finalA m ρ c (0 : Fin 1)) = outF m c := by
    unfold finalA
    rw [show cfg0.N = ((0 : Fin 1) : Fin cfg0.N).val + 1 from rfl, (dats m ρ 0 c).arrAt_succ (0 : Fin 1) (0 : Fin 1)]
    rw [show (cfg0.win (0 : Fin 1)).flush (0 : Fin 1) = true from flush0_0 _, if_pos rfl]
    exact View.read_write_univ _ _
  have hz : (fun a => (win0_0.index (0 : Fin 1)) a * main_v1.ty.shape.size a) = fun _ => 0 :=
    funext fun a => by fin_cases a <;> decide
  have hr := fun f => Memref.read_access_unit_zero (Elt Ideal) main_v1 hz (fun a => by fin_cases a <;> decide) f
  rw [hr] at ho
  exact ho

/-- Devices that hold the blocks of the reference's arrays hold its layer. -/
theorem holds_of_blocks (m : (ℓ : Loc nD τ sig) → Buf (Elt Ideal) ℓ) (L : Layer)
    (h : ∀ c : Dev nD, arg0 m c = Layout.block ⟨2, ![256, 1024]⟩ ⟨2, ![1024, 1024]⟩ 0 4 c L.x
      ∧ arg1 m c = Layout.block ⟨2, ![1024, 4]⟩ ⟨2, ![1024, 16]⟩ 1 4 c L.g
      ∧ arg2 m c = Layout.block ⟨3, ![4, 1024, 2048]⟩ ⟨3, ![16, 1024, 2048]⟩ 0 4 c L.w1
      ∧ arg3 m c = Layout.block ⟨3, ![4, 2048, 1024]⟩ ⟨3, ![16, 2048, 1024]⟩ 0 4 c L.w2) : Holds m L where
  x := fun b i d t ht => by
    rw [(h b).1]
    refine congrArg L.x (funext fun a => Fin.ext ?_)
    fin_cases a
    · show b.val * 256 + i.val = t.val; omega
    · rfl
  g := fun b d j e he => by
    rw [(h b).2.1]
    refine congrArg L.g (funext fun a => Fin.ext ?_)
    fin_cases a
    · rfl
    · show b.val * 4 + j.val = e.val; omega
  w1 := fun b j e k f he => by
    rw [(h b).2.2.1]
    refine congrArg L.w1 (funext fun a => Fin.ext ?_)
    fin_cases a
    · show b.val * 4 + j.val = e.val; omega
    · rfl
    · rfl
  w2 := fun b j e f d he => by
    rw [(h b).2.2.2]
    refine congrArg L.w2 (funext fun a => Fin.ext ?_)
    fin_cases a
    · show b.val * 4 + j.val = e.val; omega
    · rfl
    · rfl

/-- Row `i` of device `c`'s block is row `256 c + i` of the whole. -/
theorem block_row (c : Dev nD) (i : Fin 256) (d : Fin 1024) {α : Type} (v : (⟨2, ![1024, 1024]⟩ : Shape).Idx → α) :
    (Layout.block ⟨2, ![256, 1024]⟩ ⟨2, ![1024, 1024]⟩ 0 4 c v : (⟨2, ![256, 1024]⟩ : Shape).Idx → _) (ix2 i d)
      = v (ix2 ⟨256 * c.val + i.val, by have : c.val < 4 := c.isLt; omega⟩ d) := by
  refine congrArg v (funext fun a => Fin.ext ?_)
  fin_cases a
  · show c.val * 256 + i.val = 256 * c.val + i.val; omega
  · rfl

/-- On the mask, the kernel's result is its block of the reference's. -/
theorem result_eq (m : (ℓ : Loc nD τ sig) → Buf (Elt Ideal) ℓ)
    (m' : (ℓ : Loc Cert.ReferenceIdeal.nD Cert.ReferenceIdeal.τ Cert.ReferenceIdeal.sig) → Buf (Elt Ideal) ℓ)
    (H : Holds m (refLayer m')) (c : Dev nD) (i : (⟨2, ![256, 1024]⟩ : Shape).Idx)
    (hi : (Layout.block ⟨2, ![256, 1024]⟩ ⟨2, ![1024, 1024]⟩ 0 4 c
      (Cert.On_kept.fn (F := Ideal) (refLayer m').x (refLayer m').g (refLayer m').w1 (refLayer m').w2) : (⟨2, ![256, 1024]⟩ : Shape).Idx → _) i = 1#1) :
    outF m c i = (Layout.block ⟨2, ![256, 1024]⟩ ⟨2, ![1024, 1024]⟩ 0 4 c
      (Cert.ReferenceIdeal.Value.res_main_v43 (F := Ideal) m' (0 : Dev Cert.ReferenceIdeal.nD)) : (⟨2, ![256, 1024]⟩ : Shape).Idx → _) i := by
  obtain ⟨r, d, rfl⟩ : ∃ (r : Fin 256) (d : Fin 1024), i = ix2 r d := ⟨i 0, i 1, by funext a; fin_cases a <;> rfl⟩
  rw [block_row] at hi ⊢
  obtain ⟨hr, hroom⟩ := kept_at _ _ _ hi
  rw [ref_at m' hr]
  exact outF_at H hr c r _ d rfl hroom

theorem algebraic : Cert.algebraic_KernelIdeal_ReferenceIdeal_on_kept := by
  intro m g m' g' _ hagree
  have H : Holds m (refLayer m') := holds_of_blocks m (refLayer m') hagree
  refine ⟨Cert.ReferenceIdeal.Value.res_main_v43 (F := Ideal) m' (0 : Dev Cert.ReferenceIdeal.nD), ?_, ?_⟩
  · refine (θ_run Cert.KernelIdeal.defs _ _).mono (fun r h c => ⟨fun i hi => ?_, (h.1 c).2⟩) (run_main (F := Ideal) m g)
    have e : r.2.mem ((c.tc : Thread nD τ).loc main_v1) = outF m c := ((h.1 c).1 (0 : Fin 1)).trans (finalA_out m g c)
    exact (congrFun e i).trans (result_eq m m' H c i hi)
  · exact (θ_run Cert.ReferenceIdeal.defs _ _).mono (fun r h => ⟨fun i _ => congrFun (h 0).1 i, (h 0).2⟩)
      (Cert.ReferenceIdeal.Value.run (F := Ideal) m' g')

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.On_kept
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.On_kept.Gen.facts,
  Cert.Moe.frame_kernel, Cert.Moe.frame_ideal, Cert.Moe.frame_reference, trivial, Cert.Moe.algebraic⟩

end Cert.Proof

end
